-- ==== Defs.lean ====
def Pre_Kernel [hPre_lengths : Cert.Pre_lengths.Facts] (m : (ℓ : Loc Cert.Kernel.nD Cert.Kernel.τ Cert.Kernel.sig) → Buf (Elt Bits) ℓ) : Prop :=
  ∀ c : Dev Cert.Kernel.nD,
    (Cert.Pre_lengths.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_lengths : Cert.Pre_lengths.Facts] (m : (ℓ : Loc Cert.KernelIdeal.nD Cert.KernelIdeal.τ Cert.KernelIdeal.sig) → Buf (Elt Ideal) ℓ) : Prop :=
  ∀ c : Dev Cert.KernelIdeal.nD,
    (Cert.Pre_lengths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] [hPre_lengths : Cert.Pre_lengths.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_lengths : Cert.Pre_lengths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_lengths : Cert.Pre_lengths.Facts) (hPre_finite : Cert.Pre_finite.Facts),
    quiescent_Kernel (hKernel := hKernel) (hPre_lengths := hPre_lengths)
    ∧ quiescent_KernelIdeal (hKernelIdeal := hKernelIdeal) (hPre_lengths := hPre_lengths)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1x2048 : Shape := ⟨3, ![8, 1, 2048]⟩
abbrev S8x65536x2x128 : Shape := ⟨4, ![8, 65536, 2, 128]⟩
abbrev S8x65536x2 : Shape := ⟨3, ![8, 65536, 2]⟩
abbrev S8 : Shape := ⟨1, ![8]⟩
abbrev S_ : Shape := ⟨0, ![]⟩

class Facts : Prop where
  bcast_S_S8 : S_.BroadcastsInDim S8 (![] : Fin 0 → Fin S8.rank)
  bcast_S_S8x1x2048 : S_.BroadcastsInDim S8x1x2048 (![] : Fin 0 → Fin S8x1x2048.rank)
  bcast_S_S8x65536x2 : S_.BroadcastsInDim S8x65536x2 (![] : Fin 0 → Fin S8x65536x2.rank)

variable [Facts]

def fn {F : FTy → Type} [FloatOps F] (main_arg0 : FVec F S8x1x2048 .bf16) (main_arg1 : IVec S8x65536x2x128 8) (main_arg2 : FVec F S8x65536x2 .f32) (main_arg3 : IVec S8x65536x2x128 8) (main_arg4 : FVec F S8x65536x2 .f32) (main_arg5 : IVec S8 32) : IVec S8 1 × IVec S8x1x2048 1 × IVec S8x65536x2 1 :=
  let main_c : IVec S_ 32 := constantI S_ 32 1#32
  let main_v0 : IVec S8 32 := broadcastInDim S8 ![] bcast_S_S8 main_c
  let main_v1 : IVec S8 1 := cmpi .sge main_arg5 main_v0
  let main_cst : FVec F S_ .bf16 := constant S_ .bf16 0xFF80#16
  let main_v2 : FVec F S8x1x2048 .bf16 := broadcastInDim S8x1x2048 ![] bcast_S_S8x1x2048 main_cst
  let main_v3 : IVec S8x1x2048 1 := cmpf .ogt main_arg0 main_v2
  let main_cst_0 : FVec F S_ .bf16 := constant S_ .bf16 0x7F80#16
  let main_v4 : FVec F S8x1x2048 .bf16 := broadcastInDim S8x1x2048 ![] bcast_S_S8x1x2048 main_cst_0
  let main_v5 : IVec S8x1x2048 1 := cmpf .olt main_arg0 main_v4
  let main_v6 : IVec S8x1x2048 1 := andi main_v3 main_v5
  let main_cst_1 : FVec F S_ .f32 := constant S_ .f32 0xFF800000#32
  let main_v7 : FVec F S8x65536x2 .f32 := broadcastInDim S8x65536x2 ![] bcast_S_S8x65536x2 main_cst_1
  let main_v8 : IVec S8x65536x2 1 := cmpf .ogt main_arg2 main_v7
  let main_cst_2 : FVec F S_ .f32 := constant S_ .f32 0x7F800000#32
  let main_v9 : FVec F S8x65536x2 .f32 := broadcastInDim S8x65536x2 ![] bcast_S_S8x65536x2 main_cst_2
  let main_v10 : IVec S8x65536x2 1 := cmpf .olt main_arg2 main_v9
  let main_v11 : IVec S8x65536x2 1 := andi main_v8 main_v10
  (main_v1, main_v6, main_v11)
-- ==== Pre_lengths.lean ====
abbrev S8x1x2048 : Shape := ⟨3, ![8, 1, 2048]⟩
abbrev S8x65536x2x128 : Shape := ⟨4, ![8, 65536, 2, 128]⟩
abbrev S8x65536x2 : Shape := ⟨3, ![8, 65536, 2]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x1x2048 .bf16) (main_arg1 : IVec S8x65536x2x128 8) (main_arg2 : FVec F S8x65536x2 .f32) (main_arg3 : IVec S8x65536x2x128 8) (main_arg4 : FVec F S8x65536x2 .f32) (main_arg5 : IVec S8 32) : IVec S8 1 :=
  let main_c : IVec S_ 32 := constantI S_ 32 1#32
  let main_v0 : IVec S8 32 := broadcastInDim S8 ![] bcast_S_S8 main_c
  let main_v1 : IVec S8 1 := cmpi .sge main_arg5 main_v0
  main_v1
-- ==== Kernel.lean ====
abbrev S8x1x2048 : Shape := ⟨3, ![8, 1, 2048]⟩
abbrev S8x65536x2x128 : Shape := ⟨4, ![8, 65536, 2, 128]⟩
abbrev S8x65536x2 : Shape := ⟨3, ![8, 65536, 2]⟩
abbrev S8 : Shape := ⟨1, ![8]⟩
abbrev S8x16x128 : Shape := ⟨3, ![8, 16, 128]⟩
abbrev S8x2x65536x128 : Shape := ⟨4, ![8, 2, 65536, 128]⟩
abbrev S8x2x65536 : Shape := ⟨3, ![8, 2, 65536]⟩
abbrev S1x16x128 : Shape := ⟨3, ![1, 16, 128]⟩
abbrev S1x2x8192x128 : Shape := ⟨4, ![1, 2, 8192, 128]⟩
abbrev S1 : Shape := ⟨1, ![1]⟩
abbrev S1x2x8192 : Shape := ⟨3, ![1, 2, 8192]⟩
abbrev S16x128 : Shape := ⟨2, ![16, 128]⟩
abbrev S8x8192 : Shape := ⟨2, ![8, 8192]⟩
abbrev S1x8x128 : Shape := ⟨3, ![1, 8, 128]⟩
abbrev S8x128 : Shape := ⟨2, ![8, 128]⟩
abbrev S1x1x8192x128 : Shape := ⟨4, ![1, 1, 8192, 128]⟩
abbrev S8192x128 : Shape := ⟨2, ![8192, 128]⟩
abbrev S1x1x8192 : Shape := ⟨3, ![1, 1, 8192]⟩
abbrev S1x8192 : Shape := ⟨2, ![1, 8192]⟩
abbrev S8x1 : Shape := ⟨2, ![8, 1]⟩

abbrev nBuf : Space → Nat
  | .hbm => 12
  | .vmem => 15
  | .smem => 1
  | _ => 0

abbrev bufTy : (tb : Table) → Fin (tcTables nBuf tb) → BufTy
  | .hbm, ⟨0, _⟩ => ⟨S8x1x2048, .bf16⟩
  | .hbm, ⟨1, _⟩ => ⟨S8x65536x2x128, .i8⟩
  | .hbm, ⟨2, _⟩ => ⟨S8x65536x2, .f32⟩
  | .hbm, ⟨3, _⟩ => ⟨S8x65536x2x128, .i8⟩
  | .hbm, ⟨4, _⟩ => ⟨S8x65536x2, .f32⟩
  | .hbm, ⟨5, _⟩ => ⟨S8x16x128, .bf16⟩
  | .hbm, ⟨6, _⟩ => ⟨S8x2x65536x128, .i8⟩
  | .hbm, ⟨7, _⟩ => ⟨S8x2x65536x128, .i8⟩
  | .hbm, ⟨8, _⟩ => ⟨S8x2x65536, .f32⟩
  | .hbm, ⟨9, _⟩ => ⟨S8x2x65536, .f32⟩
  | .hbm, ⟨10, _⟩ => ⟨S8x16x128, .bf16⟩
  | .hbm, ⟨11, _⟩ => ⟨S8x1x2048, .bf16⟩
  | .local _ .vmem, ⟨0, _⟩ => ⟨S1x16x128, .bf16⟩
  | .local _ .vmem, ⟨1, _⟩ => ⟨S1x16x128, .bf16⟩
  | .local _ .vmem, ⟨2, _⟩ => ⟨S1x2x8192x128, .i8⟩
  | .local _ .vmem, ⟨3, _⟩ => ⟨S1x2x8192x128, .i8⟩
  | .local _ .vmem, ⟨4, _⟩ => ⟨S1x2x8192, .f32⟩
  | .local _ .vmem, ⟨5, _⟩ => ⟨S1x2x8192, .f32⟩
  | .local _ .vmem, ⟨6, _⟩ => ⟨S1x2x8192x128, .i8⟩
  | .local _ .vmem, ⟨7, _⟩ => ⟨S1x2x8192x128, .i8⟩
  | .local _ .vmem, ⟨8, _⟩ => ⟨S1x2x8192, .f32⟩
  | .local _ .vmem, ⟨9, _⟩ => ⟨S1x2x8192, .f32⟩
  | .local _ .vmem, ⟨10, _⟩ => ⟨S1x16x128, .bf16⟩
  | .local _ .vmem, ⟨11, _⟩ => ⟨S1x16x128, .bf16⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .smem, ⟨0, _⟩ => ⟨S8, .i32⟩
  | _, _ => ⟨S8x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_2 : BitVec 32 := 0#32
  let v11 : BitVec 1 := Scalar.cmpi .ne v10 c0_i32_2
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S8.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c1_i32 : BitVec 32 := 1#32
  let v2 : BitVec 32 := Scalar.subi v1 c1_i32
  let c8192_i32 : BitVec 32 := 8192#32
  let v3 : BitVec 32 := Scalar.divsi v2 c8192_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c8192_i32 c0_i32_1
  let v10 : BitVec 32 := Scalar.extui v9
  let c0_i32_2 : BitVec 32 := 0#32
  let v11 : BitVec 1 := Scalar.cmpi .slt c8192_i32 c0_i32_2
  let v12 : BitVec 32 := Scalar.extui v11
  let v13 : BitVec 32 := Scalar.subi v10 v12
  let v14 : BitVec 1 := Scalar.cmpi .ne v8 v13
  let v15 : BitVec 32 := Scalar.remsi v2 c8192_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg1 v19
  let c0_i32_5 : BitVec 32 := 0#32
  let c0_i32_6 : BitVec 32 := 0#32
  let c0_i32_7 : BitVec 32 := 0#32
  ![arg0.toNat, c0_i32_5.toNat, v20.toNat, c0_i32_6.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c1_i32 : BitVec 32 := 1#32
  let v2 : BitVec 32 := Scalar.subi v1 c1_i32
  let c8192_i32 : BitVec 32 := 8192#32
  let v3 : BitVec 32 := Scalar.divsi v2 c8192_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c8192_i32 c0_i32_1
  let v10 : BitVec 32 := Scalar.extui v9
  let c0_i32_2 : BitVec 32 := 0#32
  let v11 : BitVec 1 := Scalar.cmpi .slt c8192_i32 c0_i32_2
  let v12 : BitVec 32 := Scalar.extui v11
  let v13 : BitVec 32 := Scalar.subi v10 v12
  let v14 : BitVec 1 := Scalar.cmpi .ne v8 v13
  let v15 : BitVec 32 := Scalar.remsi v2 c8192_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg1 v19
  let c0_i32_5 : BitVec 32 := 0#32
  let c0_i32_6 : BitVec 32 := 0#32
  ![arg0.toNat, c0_i32_5.toNat, v20.toNat]

def cc0_transform_3 (k0_off1_inb : ∀ i : grid0.Coords, ∀ a, (k0_off1 i) a + S1.size a ≤ S8.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c1_i32 : BitVec 32 := 1#32
  let v2 : BitVec 32 := Scalar.subi v1 c1_i32
  let c8192_i32 : BitVec 32 := 8192#32
  let v3 : BitVec 32 := Scalar.divsi v2 c8192_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c8192_i32 c0_i32_1
  let v10 : BitVec 32 := Scalar.extui v9
  let c0_i32_2 : BitVec 32 := 0#32
  let v11 : BitVec 1 := Scalar.cmpi .slt c8192_i32 c0_i32_2
  let v12 : BitVec 32 := Scalar.extui v11
  let v13 : BitVec 32 := Scalar.subi v10 v12
  let v14 : BitVec 1 := Scalar.cmpi .ne v8 v13
  let v15 : BitVec 32 := Scalar.remsi v2 c8192_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg1 v19
  let c0_i32_5 : BitVec 32 := 0#32
  let c0_i32_6 : BitVec 32 := 0#32
  let c0_i32_7 : BitVec 32 := 0#32
  ![arg0.toNat, c0_i32_5.toNat, v20.toNat, c0_i32_6.toNat]

def cc0_transform_4 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c1_i32 : BitVec 32 := 1#32
  let v2 : BitVec 32 := Scalar.subi v1 c1_i32
  let c8192_i32 : BitVec 32 := 8192#32
  let v3 : BitVec 32 := Scalar.divsi v2 c8192_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c8192_i32 c0_i32_1
  let v10 : BitVec 32 := Scalar.extui v9
  let c0_i32_2 : BitVec 32 := 0#32
  let v11 : BitVec 1 := Scalar.cmpi .slt c8192_i32 c0_i32_2
  let v12 : BitVec 32 := Scalar.extui v11
  let v13 : BitVec 32 := Scalar.subi v10 v12
  let v14 : BitVec 1 := Scalar.cmpi .ne v8 v13
  let v15 : BitVec 32 := Scalar.remsi v2 c8192_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg1 v19
  let c0_i32_5 : BitVec 32 := 0#32
  let c0_i32_6 : BitVec 32 := 0#32
  ![arg0.toNat, c0_i32_5.toNat, v20.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x8192x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x8192x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x1x2048 : Shape := ⟨3, ![8, 1, 2048]⟩
abbrev S8x65536x2x128 : Shape := ⟨4, ![8, 65536, 2, 128]⟩
abbrev S8x65536x2 : Shape := ⟨3, ![8, 65536, 2]⟩
abbrev S8 : Shape := ⟨1, ![8]⟩
abbrev S8x1x2x8x128 : Shape := ⟨5, ![8, 1, 2, 8, 128]⟩
abbrev S8x2x65536x1x8 : Shape := ⟨5, ![8, 2, 65536, 1, 8]⟩
abbrev S8x2x8x1x65536 : Shape := ⟨5, ![8, 2, 8, 1, 65536]⟩
abbrev S8x2x65536 : Shape := ⟨3, ![8, 2, 65536]⟩
abbrev S8x2x1x1x65536 : Shape := ⟨5, ![8, 2, 1, 1, 65536]⟩
abbrev S_ : Shape := ⟨0, ![]⟩
abbrev S65536 : Shape := ⟨1, ![65536]⟩
abbrev S1x65536 : Shape := ⟨2, ![1, 65536]⟩
abbrev S8x1 : Shape := ⟨2, ![8, 1]⟩
abbrev S8x65536 : Shape := ⟨2, ![8, 65536]⟩
abbrev S8x1x1x1x65536 : Shape := ⟨5, ![8, 1, 1, 1, 65536]⟩
abbrev S8x2x8x1 : Shape := ⟨4, ![8, 2, 8, 1]⟩
abbrev S8x2x8x1x1 : Shape := ⟨5, ![8, 2, 8, 1, 1]⟩
abbrev S8x2x128x8x1 : Shape := ⟨5, ![8, 2, 128, 8, 1]⟩

abbrev nBuf : Space → Nat
  | .hbm => 55
  | .vmem => 0
  | .smem => 0
  | _ => 0

abbrev bufTy : (tb : Table) → Fin (tcTables nBuf tb) → BufTy
  | .hbm, ⟨0, _⟩ => ⟨S8x1x2048, .bf16⟩
  | .hbm, ⟨1, _⟩ => ⟨S8x65536x2x128, .i8⟩
  | .hbm, ⟨2, _⟩ => ⟨S8x65536x2, .f32⟩
  | .hbm, ⟨3, _⟩ => ⟨S8x65536x2x128, .i8⟩
  | .hbm, ⟨4, _⟩ => ⟨S8x65536x2, .f32⟩
  | .hbm, ⟨5, _⟩ => ⟨S8, .i32⟩
  | .hbm, ⟨6, _⟩ => ⟨S8x1x2x8x128, .bf16⟩
  | .hbm, ⟨7, _⟩ => ⟨S8x65536x2x128, .i32⟩
  | .hbm, ⟨8, _⟩ => ⟨S8x65536x2x128, .bf16⟩
  | .hbm, ⟨9, _⟩ => ⟨S8x65536x2x128, .i32⟩
  | .hbm, ⟨10, _⟩ => ⟨S8x65536x2x128, .bf16⟩
  | .hbm, ⟨11, _⟩ => ⟨S8x2x65536x1x8, .f32⟩
  | .hbm, ⟨12, _⟩ => ⟨S8x2x8x1x65536, .f32⟩
  | .hbm, ⟨13, _⟩ => ⟨S8x2x65536, .f32⟩
  | .hbm, ⟨14, _⟩ => ⟨S8x2x1x1x65536, .f32⟩
  | .hbm, ⟨15, _⟩ => ⟨S8x2x8x1x65536, .f32⟩
  | .hbm, ⟨16, _⟩ => ⟨S8x2x8x1x65536, .f32⟩
  | .hbm, ⟨17, _⟩ => ⟨S_, .f32⟩
  | .hbm, ⟨18, _⟩ => ⟨S8x2x8x1x65536, .f32⟩
  | .hbm, ⟨19, _⟩ => ⟨S8x2x8x1x65536, .f32⟩
  | .hbm, ⟨20, _⟩ => ⟨S65536, .i32⟩
  | .hbm, ⟨21, _⟩ => ⟨S1x65536, .i32⟩
  | .hbm, ⟨22, _⟩ => ⟨S8x1, .i32⟩
  | .hbm, ⟨23, _⟩ => ⟨S8x65536, .i32⟩
  | .hbm, ⟨24, _⟩ => ⟨S8x65536, .i32⟩
  | .hbm, ⟨25, _⟩ => ⟨S8x65536, .i1⟩
  | .hbm, ⟨26, _⟩ => ⟨S8x1x1x1x65536, .i1⟩
  | .hbm, ⟨27, _⟩ => ⟨S_, .f32⟩
  | .hbm, ⟨28, _⟩ => ⟨S_, .f32⟩
  | .hbm, ⟨29, _⟩ => ⟨S8x2x8x1x65536, .i1⟩
  | .hbm, ⟨30, _⟩ => ⟨S8x2x8x1x65536, .f32⟩
  | .hbm, ⟨31, _⟩ => ⟨S8x2x8x1x65536, .f32⟩
  | .hbm, ⟨32, _⟩ => ⟨S_, .f32⟩
  | .hbm, ⟨33, _⟩ => ⟨S8x2x8x1, .f32⟩
  | .hbm, ⟨34, _⟩ => ⟨S_, .f32⟩
  | .hbm, ⟨35, _⟩ => ⟨S8x2x8x1, .f32⟩
  | .hbm, ⟨36, _⟩ => ⟨S8x2x8x1, .f32⟩
  | .hbm, ⟨37, _⟩ => ⟨S8x2x8x1x1, .f32⟩
  | .hbm, ⟨38, _⟩ => ⟨S8x2x8x1x65536, .f32⟩
  | .hbm, ⟨39, _⟩ => ⟨S8x2x8x1x65536, .f32⟩
  | .hbm, ⟨40, _⟩ => ⟨S8x2x8x1x65536, .f32⟩
  | .hbm, ⟨41, _⟩ => ⟨S_, .f32⟩
  | .hbm, ⟨42, _⟩ => ⟨S8x2x8x1, .f32⟩
  | .hbm, ⟨43, _⟩ => ⟨S8x2x8x1x1, .f32⟩
  | .hbm, ⟨44, _⟩ => ⟨S8x2x8x1x65536, .f32⟩
  | .hbm, ⟨45, _⟩ => ⟨S8x2x8x1x65536, .f32⟩
  | .hbm, ⟨46, _⟩ => ⟨S8x2x65536, .f32⟩
  | .hbm, ⟨47, _⟩ => ⟨S8x2x1x1x65536, .f32⟩
  | .hbm, ⟨48, _⟩ => ⟨S8x2x8x1x65536, .f32⟩
  | .hbm, ⟨49, _⟩ => ⟨S8x2x8x1x65536, .f32⟩
  | .hbm, ⟨50, _⟩ => ⟨S8x2x8x1x65536, .bf16⟩
  | .hbm, ⟨51, _⟩ => ⟨S8x2x128x8x1, .f32⟩
  | .hbm, ⟨52, _⟩ => ⟨S8x1x2x8x128, .f32⟩
  | .hbm, ⟨53, _⟩ => ⟨S8x1x2048, .f32⟩
  | .hbm, ⟨54, _⟩ => ⟨S8x1x2048, .bf16⟩
  | _, _ => ⟨S8x1x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Proof.BlockIndex.lean ====
/- The word arithmetic of the kernel's block index: block `min(i, (n - 1) // 8192)` of a cache whose valid length is `n`,
   spelled in 32-bit words as the index maps spell it (the floor division as a quotient rounded toward zero and a correction),
   read as a natural number. -/
module

public import Idealize.ShloMosaic.PureOps.ShapeOps
public import Idealize.ShloMosaic.Lib.Affine
public import Idealize.ShloMosaic.Lib.WordCmp

@[expose] public section

namespace Cert.Decode

open Idealize.ShloMosaic

/-- The floor division of a word by 8192 as the index maps write it: the quotient rounded toward zero, less one when the signs
    differ and the remainder is not zero. -/
def floorDiv (x : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt 8192#32 0#32)) (Scalar.extui (Scalar.cmpi .slt 8192#32 0#32))))
      (Scalar.cmpi .ne (Scalar.remsi x 8192#32) 0#32))
    (Scalar.subi (Scalar.divsi x 8192#32) 1#32) (Scalar.divsi x 8192#32)

/-- The block index word: the point's block `i`, or the last block holding a valid position when that is smaller. -/
def blockWord (n : BitVec 32) (i : Nat) : BitVec 32 :=
  Scalar.minsi (BitVec.ofNat 32 i) (floorDiv (Scalar.subi n 1#32))

/-- Of a non-negative word the correction never applies: the floor division is the quotient. -/
theorem floorDiv_eq {x : BitVec 32} (hx : 0 ≤ x.toInt) : floorDiv x = Scalar.divsi x 8192#32 := by
  have h1 : Scalar.subi (Scalar.extui (Scalar.cmpi .sgt 8192#32 0#32) : BitVec 32) (Scalar.extui (Scalar.cmpi .slt 8192#32 0#32)) = 1#32 := by decide
  unfold floorDiv
  rw [h1]
  by_cases h0 : x = 0#32
  · subst h0; decide
  · have hpos : 0 < x.toInt := by
      rcases lt_or_eq_of_le hx with h | h
      · exact h
      · exact absurd (BitVec.eq_of_toInt_eq (by rw [← h]; rfl)) h0
    have e1 : Scalar.cmpi .sgt x 0#32 = 1#1 := by
      show BitVec.ofBool ((0#32).slt x) = 1#1
      rw [BitVec.slt, show (0#32 : BitVec 32).toInt = 0 from rfl, decide_eq_true hpos]; rfl
    have e2 : Scalar.cmpi .slt x 0#32 = 0#1 := by
      show BitVec.ofBool (x.slt 0#32) = 0#1
      rw [BitVec.slt, show (0#32 : BitVec 32).toInt = 0 from rfl, decide_eq_false (not_lt.mpr hx)]; rfl
    rw [e1, e2]
    have e3 : Scalar.cmpi .ne (Scalar.subi (Scalar.extui (1#1) : BitVec 32) (Scalar.extui (0#1))) 1#32 = 0#1 := by decide
    rw [e3]
    have e4 (b : BitVec 1) : Scalar.andi 0#1 b = 0#1 := by revert b; decide
    rw [e4]; rfl

/-- The word below a positive word, read signed. -/
theorem sub_one_toInt {n : BitVec 32} (hn : 1 ≤ n.toInt) : (Scalar.subi n 1#32).toInt = n.toInt - 1 := by
  have hlt := BitVec.toInt_lt (x := n)
  show (n - 1#32).toInt = _
  rw [BitVec.toInt_sub, show (1#32 : BitVec 32).toInt = 1 from rfl]
  rw [Int.bmod_eq_of_le] <;> omega

private theorem isInt_iff {x : BitVec 32} {e : Int} : Affine.IsInt x e ↔ x.toInt = e := by unfold Affine.IsInt; exact Iff.rfl

/-- The block index of a positive length is `min(i, (n - 1) / 8192)`. -/
theorem blockWord_toNat {n : BitVec 32} (hn : 1 ≤ n.toInt) {i : Nat} (hi : i < 8) :
    (blockWord n i).toNat = min i ((n.toNat - 1) / 8192) := by
  have h0 := sub_one_toInt hn
  have hN : n.toInt = n.toNat := by
    have := BitVec.toInt_eq_toNat_cond n
    have := n.isLt
    split_ifs at * <;> omega
  unfold blockWord
  rw [floorDiv_eq (by omega)]
  have hd : Affine.IsInt (Scalar.divsi (Scalar.subi n 1#32) 8192#32) ((n.toInt - 1) / 8192) :=
    Affine.divsi (isInt_iff.2 h0) (Affine.ofNat 8192 ⟨rfl, by decide⟩) ⟨rfl, by omega, by decide⟩
  have hm := isInt_iff.1 (Affine.minsi (e := min (i : Int) ((n.toInt - 1) / 8192)) (Affine.ofNat i ⟨rfl, by omega⟩) hd rfl)
  have hlt := (Scalar.minsi (BitVec.ofNat 32 i) (Scalar.divsi (Scalar.subi n 1#32) 8192#32)).isLt
  rw [BitVec.toInt_eq_toNat_cond] at hm
  split_ifs at hm <;> omega

/-- Inside the cache: the block index of a positive length is one of the eight. -/
theorem blockWord_lt {n : BitVec 32} (hn : 1 ≤ n.toInt) {i : Nat} (hi : i < 8) : (blockWord n i).toNat < 8 := by
  rw [blockWord_toNat hn hi]; omega

/-- While the point's first position is valid, the block index is the point's own. -/
theorem blockWord_of_lt {n : BitVec 32} (hn : 1 ≤ n.toInt) {i : Nat} (hi : i < 8) (h : i * 8192 < n.toNat) :
    (blockWord n i).toNat = i := by
  rw [blockWord_toNat hn hi]; omega

end Cert.Decode
-- ==== Proof.OkKernel.lean ====
/- The side condition of the prefetched lengths, for the kernel at bit precision: when every length is at least 1, each cache and scale
   window's block is inside its array at every grid point. -/
module

public import proofs.«01_k».proof.Proof.Gen.Kernel.Frame.Runs
public import Idealize.ShloMosaic.Lib.ValueIdxCore
public import proofs.«01_k».proof.Proof.BlockIndex

@[expose] public section

namespace Cert.Kernel.Decode

open Idealize.ShloMosaic Idealize.ShloMosaic.TcCoe Cert.Decode
open Cert.Kernel Cert.Kernel.Gen

variable {F : FTy → Type} [FloatOps F]
variable (m : (ℓ : Loc nD τ sig) → Buf (Elt F) ℓ)

/-- The length of batch `b` as launched. -/
abbrev len (b : Fin 8) : BitVec 32 := m (((0 : Dev nD) : Thread nD τ).loc main_arg5) (show S8.Idx from ValueIdx.ix1 b)

/-- The word an index map reads from the prefetched table at grid point `i`: the length of batch `i 0`. -/
theorem tbl_at (i : grid0.Coords) :
    (tbl m).at 0 (Rect.unit (s := S8) ![(Scalar.indexCast (BitVec.ofNat 32 (i 0).val)).toNat] S1.size (k0_off1_inb i)) numel1_S1 = len m (i 0) := by
  show V m 0 main_arg5 _ = _
  rw [V_main_arg5]
  refine congrArg (m (((0 : Dev nD) : Thread nD τ).loc main_arg5)) ?_
  refine funext fun (a : Fin 1) => ?_
  obtain rfl : a = 0 := Subsingleton.elim _ _
  apply Fin.ext
  have h : (i 0).val < 8 := (i 0).isLt
  show (BitVec.ofNat 32 (i 0).val).toNat + 1 * 0 = (i 0).val
  rw [BitVec.toNat_ofNat]; omega

/-- What the index maps of the caches and the scales return. -/
theorem transform_1_eq (i : grid0.Coords) :
    cc0_transform_1 k0_off1_inb numel1_S1 (tbl m) i = ![(BitVec.ofNat 32 (i 0).val).toNat, 0, (blockWord (len m (i 0)) (i 1).val).toNat, 0] := by
  rw [← tbl_at m i]; rfl
theorem transform_2_eq (i : grid0.Coords) :
    cc0_transform_2 k0_off1_inb numel1_S1 (tbl m) i = ![(BitVec.ofNat 32 (i 0).val).toNat, 0, (blockWord (len m (i 0)) (i 1).val).toNat] := by
  rw [← tbl_at m i]; rfl
theorem transform_3_eq (i : grid0.Coords) :
    cc0_transform_3 k0_off1_inb numel1_S1 (tbl m) i = ![(BitVec.ofNat 32 (i 0).val).toNat, 0, (blockWord (len m (i 0)) (i 1).val).toNat, 0] := by
  rw [← tbl_at m i]; rfl
theorem transform_4_eq (i : grid0.Coords) :
    cc0_transform_4 k0_off1_inb numel1_S1 (tbl m) i = ![(BitVec.ofNat 32 (i 0).val).toNat, 0, (blockWord (len m (i 0)) (i 1).val).toNat] := by
  rw [← tbl_at m i]; rfl

/-- Lengths of at least 1 keep every block inside its array. -/
theorem ok_of_pos (h : ∀ b, 1 ≤ (len m b).toInt) : Ok m := by
  have hb (i : grid0.Coords) : (BitVec.ofNat 32 (i 0).val).toNat < 8 := by
    have h : (i 0).val < 8 := (i 0).isLt
    rw [BitVec.toNat_ofNat]; omega
  have hk (i : grid0.Coords) : (blockWord (len m (i 0)) (i 1).val).toNat < 8 := blockWord_lt (h _) (i 1).isLt
  refine ⟨fun i => ?_, fun i => ?_, fun i => ?_, fun i => ?_⟩
  · have hin : ∀ a, (cc0_transform_1 k0_off1_inb numel1_S1 (tbl m) i a + 1) * S1x2x8192x128.size a ≤ S8x2x65536x128.size a := by
      intro a
      have := hb i; have := hk i
      rw [transform_1_eq]
      fin_cases a <;> simp <;> omega
    exact ⟨hin, .inr (Affine.block_words_dvd (of_decide_eq_true rfl) (by decide))⟩
  · have hin : ∀ a, (cc0_transform_2 k0_off1_inb numel1_S1 (tbl m) i a + 1) * S1x2x8192.size a ≤ S8x2x65536.size a := by
      intro a
      have := hb i; have := hk i
      rw [transform_2_eq]
      fin_cases a <;> simp <;> omega
    exact ⟨hin, .inl rfl⟩
  · have hin : ∀ a, (cc0_transform_3 k0_off1_inb numel1_S1 (tbl m) i a + 1) * S1x2x8192x128.size a ≤ S8x2x65536x128.size a := by
      intro a
      have := hb i; have := hk i
      rw [transform_3_eq]
      fin_cases a <;> simp <;> omega
    exact ⟨hin, .inr (Affine.block_words_dvd (of_decide_eq_true rfl) (by decide))⟩
  · have hin : ∀ a, (cc0_transform_4 k0_off1_inb numel1_S1 (tbl m) i a + 1) * S1x2x8192.size a ≤ S8x2x65536.size a := by
      intro a
      have := hb i; have := hk i
      rw [transform_4_eq]
      fin_cases a <;> simp <;> omega
    exact ⟨hin, .inl rfl⟩

end Cert.Kernel.Decode
-- ==== Proof.Steps.lean ====
/- What one grid point leaves in the three scratch arrays and in the output block, as functions of the point's blocks: the running
   maximum, the running sum and the accumulator of the 16 rows, one head's 8 rows at a time. A point that takes the step from
   the contents the point before left, a point that takes it from the reset contents (the first point of a batch), and the
   last point's division are each read off the run of the body. -/
module

public import proofs.«01_k».proof.Proof.Gen.KernelIdeal.Frame
public import Idealize.ShloMosaic.Lib.Pipeline.Value
public import Idealize.ShloMosaic.Lib.Pipeline.RowLoads

@[expose] public section

set_option maxRecDepth 16384

noncomputable section

namespace Cert.KernelIdeal.Decode

open Idealize.ShloMosaic Idealize.ShloMosaic.TcCoe
open Cert.KernelIdeal Cert.KernelIdeal.Gen

variable {F : FTy → Type} [FloatOps F]

/-- Rows 0 to 7 (the first head's) and rows 8 to 15 (the second head's) of a scratch array. -/
abbrev lo (X : Vec F S16x128 .f32) : Vec F S8x128 .f32 := View.ld (Val := Elt F) X (Rect.unit (s := S16x128) ![0, 0] S8x128.size inb_S16x128_S8x128_0_0)
abbrev hi (X : Vec F S16x128 .f32) : Vec F S8x128 .f32 := View.ld (Val := Elt F) X (Rect.unit (s := S16x128) ![8, 0] S8x128.size inb_S16x128_S8x128_8_0)
/-- The query rows of each head. -/
abbrev loQ (X : Vec F S1x16x128 .bf16) : Vec F S1x8x128 .bf16 := View.ld (Val := Elt F) X (Rect.unit (s := S1x16x128) ![0, 0, 0] S1x8x128.size inb_S1x16x128_S1x8x128_0_0_0)
abbrev hiQ (X : Vec F S1x16x128 .bf16) : Vec F S1x8x128 .bf16 := View.ld (Val := Elt F) X (Rect.unit (s := S1x16x128) ![0, 8, 0] S1x8x128.size inb_S1x16x128_S1x8x128_0_8_0)
/-- The cache codes of each head. -/
abbrev loK (X : Vec F S1x2x8192x128 .i8) : Vec F S1x1x8192x128 .i8 := View.ld (Val := Elt F) X (Rect.unit (s := S1x2x8192x128) ![0, 0, 0, 0] S1x1x8192x128.size inb_S1x2x8192x128_S1x1x8192x128_0_0_0_0)
abbrev hiK (X : Vec F S1x2x8192x128 .i8) : Vec F S1x1x8192x128 .i8 := View.ld (Val := Elt F) X (Rect.unit (s := S1x2x8192x128) ![0, 1, 0, 0] S1x1x8192x128.size inb_S1x2x8192x128_S1x1x8192x128_0_1_0_0)
/-- The scales of each head. -/
abbrev loS (X : Vec F S1x2x8192 .f32) : Vec F S1x1x8192 .f32 := View.ld (Val := Elt F) X (Rect.unit (s := S1x2x8192) ![0, 0, 0] S1x1x8192.size inb_S1x2x8192_S1x1x8192_0_0_0)
abbrev hiS (X : Vec F S1x2x8192 .f32) : Vec F S1x1x8192 .f32 := View.ld (Val := Elt F) X (Rect.unit (s := S1x2x8192) ![0, 1, 0] S1x1x8192.size inb_S1x2x8192_S1x1x8192_0_1_0)

/-- The stores of the two heads' rows, the second head's last. -/
abbrev halves (h0 h1 : Vec F S8x128 .f32) : List (View.Piece (Elt F) S16x128 .f32) :=
  [⟨Rect.unit (s := S16x128) ![8, 0] S8x128.size inb_S16x128_S8x128_8_0, h1⟩, ⟨Rect.unit (s := S16x128) ![0, 0] S8x128.size inb_S16x128_S8x128_0_0, h0⟩]

/-- The two heads' rows put together. -/
def rows (h0 h1 : Vec F S8x128 .f32) : Vec F S16x128 .f32 := View.canon (Val := Elt F) (halves h0 h1)

/-- One head's new accumulator rows. -/
abbrev headA (a : BitVec 32) (n : Elt F .i32) (q : Vec F S1x8x128 .bf16) (k : Vec F S1x1x8192x128 .i8) (ks : Vec F S1x1x8192 .f32)
    (v : Vec F S1x1x8192x128 .i8) (vs : Vec F S1x1x8192 .f32) (mo ao : Vec F S8x128 .f32) : Vec F S8x128 .f32 :=
  k0_pay13 (k0_pay9 a n q k ks mo) (k0_pay10 a n q k ks mo) vs v ao

/-- The new running maximum. -/
def stepM (a : BitVec 32) (n : Elt F .i32) (q : Vec F S1x16x128 .bf16) (k : Vec F S1x2x8192x128 .i8) (ks : Vec F S1x2x8192 .f32)
    (mo : Vec F S16x128 .f32) : Vec F S16x128 .f32 :=
  rows (k0_pay14 (k0_pay8 a n (loQ q) (loK k) (loS ks) (lo mo))) (k0_pay14 (k0_pay8 a n (hiQ q) (hiK k) (hiS ks) (hi mo)))
/-- The new running sum. -/
def stepL (a : BitVec 32) (n : Elt F .i32) (q : Vec F S1x16x128 .bf16) (k : Vec F S1x2x8192x128 .i8) (ks : Vec F S1x2x8192 .f32)
    (mo l : Vec F S16x128 .f32) : Vec F S16x128 .f32 :=
  rows (k0_pay12 (k0_pay11 a n (loQ q) (loK k) (loS ks) (lo mo) (lo l))) (k0_pay12 (k0_pay11 a n (hiQ q) (hiK k) (hiS ks) (hi mo) (hi l)))
/-- The new accumulator. -/
def stepA (a : BitVec 32) (n : Elt F .i32) (q : Vec F S1x16x128 .bf16) (k : Vec F S1x2x8192x128 .i8) (ks : Vec F S1x2x8192 .f32)
    (v : Vec F S1x2x8192x128 .i8) (vs : Vec F S1x2x8192 .f32) (mo ao : Vec F S16x128 .f32) : Vec F S16x128 .f32 :=
  rows (headA a n (loQ q) (loK k) (loS ks) (loK v) (loS vs) (lo mo) (lo ao)) (headA a n (hiQ q) (hiK k) (hiS ks) (hiK v) (hiS vs) (hi mo) (hi ao))

/-- The length word the body reads from the prefetched table at point `i`. -/
abbrev word (c : Dev nD) (i : grid0.Coords) (xt0 : TbBuf0 (F := F) c tbM0_0) : Elt F .i32 :=
  tbM0_0.view.readAt (Elt F) (Rect.unit (s := S8) (k0_off1 i) S1.size (k0_off1_inb i)).toLoadRect xt0 (Shape.Idx.first (numel1_S1.symm ▸ Nat.one_pos))

theorem off2 : (![0, 0] : Fin 2 → Nat) = fun _ => 0 := funext fun a => by fin_cases a <;> rfl
theorem off3 : (![0, 0, 0] : Fin 3 → Nat) = fun _ => 0 := funext fun a => by fin_cases a <;> rfl

/-- Every row is in one of the two halves. -/
theorem rows_cover (h0 h1 : Vec F S8x128 .f32) (y : S16x128.Idx) : ∃ p ∈ halves h0 h1, y ∈ p.1.set :=
  View.cover_of_tiledL (halves h0 h1) S8x128.size (by sl_kernel_rfl) y

/-- Two stores that cover an index leave there what they leave without the earlier stores. -/
theorem canon_two {Val : EltTy → Type} [∀ e, Nonempty (Val e)] {s : Shape} {e : EltTy} (p q : View.Piece Val s e) (L : List (View.Piece Val s e))
    (y : s.Idx) (h : ∃ r ∈ [p, q], y ∈ r.1.set) : View.canon (p :: q :: L) y = View.canon [p, q] y := by
  by_cases hp : y ∈ p.1.set
  · obtain ⟨x, rfl⟩ := p.1.exists_idx_of_mem hp
    rw [show p.1.idx x = p.1.emb x from rfl, View.canon_cons_emb, View.canon_cons_emb]
  · rw [View.canon_cons_of_not_mem _ _ hp, View.canon_cons_of_not_mem _ _ hp]
    have hq : y ∈ q.1.set := by
      obtain ⟨r, hr, hy⟩ := h
      simp only [List.mem_cons, List.not_mem_nil, or_false] at hr
      rcases hr with rfl | rfl
      · exact absurd hy hp
      · exact hy
    obtain ⟨x, rfl⟩ := q.1.exists_idx_of_mem hq
    rw [show q.1.idx x = q.1.emb x from rfl, View.canon_cons_emb, View.canon_cons_emb]

/-- A store of the two halves over a store of the whole leaves the two halves. -/
theorem canon_rows (h0 h1 : Vec F S8x128 .f32) (L : List (View.Piece (Elt F) S16x128 .f32)) :
    View.canon (Val := Elt F) (⟨Rect.unit (s := S16x128) ![8, 0] S8x128.size inb_S16x128_S8x128_8_0, h1⟩ :: ⟨Rect.unit (s := S16x128) ![0, 0] S8x128.size inb_S16x128_S8x128_0_0, h0⟩ :: L)
      = rows h0 h1 :=
  funext fun y => canon_two _ _ L y (rows_cover h0 h1 y)

/-- A load of the first half, or of the second, after a store of the whole `z`; and of the second after a store of the first over `z`. -/
theorem readCov_lo {κ : Kind} {sp : Space} (v : View sig κ sp S16x128 .f32) (z : Vec F S16x128 .f32) :
    v.readCov (Val := Elt F) [⟨Rect.unit (s := S16x128) ![0, 0] ![16, 128] inb_S16x128_S16x128_0_0, z⟩] (Rect.unit (s := S16x128) ![0, 0] S8x128.size inb_S16x128_S8x128_0_0).toLoadRect = lo z := by
  rw [View.readCov_eq_canon']; exact congrArg (fun X => lo X) (View.canon_unit_zero off2 inb_S16x128_S16x128_0_0 z)
theorem readCov_hi {κ : Kind} {sp : Space} (v : View sig κ sp S16x128 .f32) (h0 : Vec F S8x128 .f32) (z : Vec F S16x128 .f32) :
    v.readCov (Val := Elt F) [⟨Rect.unit (s := S16x128) ![0, 0] S8x128.size inb_S16x128_S8x128_0_0, h0⟩, ⟨Rect.unit (s := S16x128) ![0, 0] ![16, 128] inb_S16x128_S16x128_0_0, z⟩]
      (Rect.unit (s := S16x128) ![8, 0] S8x128.size inb_S16x128_S8x128_8_0).toLoadRect = hi z := by
  rw [View.readCov_cons_of_rows_disjoint v 0 8 (.inl (le_refl 8)), View.readCov_eq_canon']; exact congrArg (fun X => hi X) (View.canon_unit_zero off2 inb_S16x128_S16x128_0_0 z)
/-- A load of the whole after stores of the two halves. -/
theorem readCov_rows {κ : Kind} {sp : Space} (v : View sig κ sp S16x128 .f32) (h0 h1 : Vec F S8x128 .f32) :
    v.readCov (Val := Elt F) [⟨Rect.unit (s := S16x128) ![8, 0] S8x128.size inb_S16x128_S8x128_8_0, h1⟩, ⟨Rect.unit (s := S16x128) ![0, 0] S8x128.size inb_S16x128_S8x128_0_0, h0⟩]
      (Rect.unit (s := S16x128) ![0, 0] S16x128.size inb_S16x128_S16x128_0_0).toLoadRect = rows h0 h1 := by
  rw [View.readCov_eq_canon']
  exact View.ld_unit_zero off2 inb_S16x128_S16x128_0_0 (rows h0 h1)

variable (c : Dev nD) (i : grid0.Coords) (arg3 : Memref sig .tc .vmem S1x16x128 .bf16) (harg3 : arg3.IsWhole) (arg4 : Memref sig .tc .vmem S1x2x8192x128 .i8) (harg4 : arg4.IsWhole) (arg5 : Memref sig .tc .vmem S1x2x8192 .f32) (harg5 : arg5.IsWhole) (arg6 : Memref sig .tc .vmem S1x2x8192x128 .i8) (harg6 : arg6.IsWhole) (arg7 : Memref sig .tc .vmem S1x2x8192 .f32) (harg7 : arg7.IsWhole) (arg8 : Memref sig .tc .vmem S1x16x128 .bf16) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole)
variable (x0 : Vec F S1x16x128 .bf16) (x1 : Vec F S1x2x8192x128 .i8) (x2 : Vec F S1x2x8192 .f32) (x3 : Vec F S1x2x8192x128 .i8) (x4 : Vec F S1x2x8192 .f32) (xt0 : TbBuf0 (F := F) c tbM0_0) (xs0 : Vec F S16x128 .f32) (xs1 : Vec F S16x128 .f32) (xs2 : Vec F S16x128 .f32)

/-- A middle point with a valid position steps the running maximum. -/
theorem sout0_C_0_eq (hc0 : ¬cond0_0 i) (hc2 : ¬cond0_2 i) (hc1 : cond0_1 i (word c i xt0)) :
    sout0_C_0 c i arg3 harg3 arg4 harg4 arg5 harg5 arg6 harg6 arg7 harg7 arg8 harg8 arg9 harg9 arg10 harg10 arg11 harg11 hc0 hc2 x0 x1 x2 x3 x4 xt0 xs0 xs1 xs2 hc1
      = stepM (BitVec.ofNat 32 (i 1).val) (word c i xt0) x0 x1 x2 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc2 x0 x1 x2 x3 x4 xt0 xs0 xs1 xs2 hc1)]
  unfold kernelRun0_C
  dsimp only
  sl_unfold_words
  have ex0 := harg3.read_unread x0
  generalize harg3.unread x0 = fx0 at ex0 ⊢
  subst ex0
  have ex1 := harg4.read_unread x1
  generalize harg4.unread x1 = fx1 at ex1 ⊢
  subst ex1
  have ex2 := harg5.read_unread x2
  generalize harg5.unread x2 = fx2 at ex2 ⊢
  subst ex2
  have exs0 := harg9.read_unread xs0
  generalize harg9.unread xs0 = fxs0 at exs0 ⊢
  subst exs0
  rfl
/-- A middle point with a valid position steps the running sum. -/
theorem sout0_C_1_eq (hc0 : ¬cond0_0 i) (hc2 : ¬cond0_2 i) (hc1 : cond0_1 i (word c i xt0)) :
    sout0_C_1 c i arg3 harg3 arg4 harg4 arg5 harg5 arg6 harg6 arg7 harg7 arg8 harg8 arg9 harg9 arg10 harg10 arg11 harg11 hc0 hc2 x0 x1 x2 x3 x4 xt0 xs0 xs1 xs2 hc1
      = stepL (BitVec.ofNat 32 (i 1).val) (word c i xt0) x0 x1 x2 xs0 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc2 x0 x1 x2 x3 x4 xt0 xs0 xs1 xs2 hc1)]
  unfold kernelRun0_C
  dsimp only
  sl_unfold_words
  have ex0 := harg3.read_unread x0
  generalize harg3.unread x0 = fx0 at ex0 ⊢
  subst ex0
  have ex1 := harg4.read_unread x1
  generalize harg4.unread x1 = fx1 at ex1 ⊢
  subst ex1
  have ex2 := harg5.read_unread x2
  generalize harg5.unread x2 = fx2 at ex2 ⊢
  subst ex2
  have exs0 := harg9.read_unread xs0
  generalize harg9.unread xs0 = fxs0 at exs0 ⊢
  subst exs0
  have exs1 := harg10.read_unread xs1
  generalize harg10.unread xs1 = fxs1 at exs1 ⊢
  subst exs1
  rfl
/-- A middle point with a valid position steps the accumulator. -/
theorem sout0_C_2_eq (hc0 : ¬cond0_0 i) (hc2 : ¬cond0_2 i) (hc1 : cond0_1 i (word c i xt0)) :
    sout0_C_2 c i arg3 harg3 arg4 harg4 arg5 harg5 arg6 harg6 arg7 harg7 arg8 harg8 arg9 harg9 arg10 harg10 arg11 harg11 hc0 hc2 x0 x1 x2 x3 x4 xt0 xs0 xs1 xs2 hc1
      = stepA (BitVec.ofNat 32 (i 1).val) (word c i xt0) x0 x1 x2 x3 x4 xs0 xs2 := by
  unfold sout0_C_2
  rw [View.read_writes_eq_canon _ _ _ (scover0_C_2 c i arg3 harg3 arg4 harg4 arg5 harg5 arg6 harg6 arg7 harg7 arg8 harg8 arg9 harg9 arg10 harg10 arg11 harg11 hc0 hc2 x0 x1 x2 x3 x4 xt0 xs0 xs1 xs2 hc1)]
  unfold kernelRun0_C
  dsimp only
  sl_unfold_words
  have ex0 := harg3.read_unread x0
  generalize harg3.unread x0 = fx0 at ex0 ⊢
  subst ex0
  have ex1 := harg4.read_unread x1
  generalize harg4.unread x1 = fx1 at ex1 ⊢
  subst ex1
  have ex2 := harg5.read_unread x2
  generalize harg5.unread x2 = fx2 at ex2 ⊢
  subst ex2
  have ex3 := harg6.read_unread x3
  generalize harg6.unread x3 = fx3 at ex3 ⊢
  subst ex3
  have ex4 := harg7.read_unread x4
  generalize harg7.unread x4 = fx4 at ex4 ⊢
  subst ex4
  have exs0 := harg9.read_unread xs0
  generalize harg9.unread xs0 = fxs0 at exs0 ⊢
  subst exs0
  have exs2 := harg11.read_unread xs2
  generalize harg11.unread xs2 = fxs2 at exs2 ⊢
  subst exs2
  rfl
/-- The last point of a batch, with a valid position, steps the running maximum. -/
theorem sout0_E_0_eq (hc0 : ¬cond0_0 i) (hc2 : cond0_2 i) (hc1 : cond0_1 i (word c i xt0)) :
    sout0_E_0 c i arg3 harg3 arg4 harg4 arg5 harg5 arg6 harg6 arg7 harg7 arg8 harg8 arg9 harg9 arg10 harg10 arg11 harg11 hc0 hc2 x0 x1 x2 x3 x4 xt0 xs0 xs1 xs2 hc1
      = stepM (BitVec.ofNat 32 (i 1).val) (word c i xt0) x0 x1 x2 xs0 := by
  unfold sout0_E_0
  rw [View.read_writes_eq_canon _ _ _ (scover0_E_0 c i arg3 harg3 arg4 harg4 arg5 harg5 arg6 harg6 arg7 harg7 arg8 harg8 arg9 harg9 arg10 harg10 arg11 harg11 hc0 hc2 x0 x1 x2 x3 x4 xt0 xs0 xs1 xs2 hc1)]
  unfold kernelRun0_E
  dsimp only
  sl_unfold_words
  have ex0 := harg3.read_unread x0
  generalize harg3.unread x0 = fx0 at ex0 ⊢
  subst ex0
  have ex1 := harg4.read_unread x1
  generalize harg4.unread x1 = fx1 at ex1 ⊢
  subst ex1
  have ex2 := harg5.read_unread x2
  generalize harg5.unread x2 = fx2 at ex2 ⊢
  subst ex2
  have exs0 := harg9.read_unread xs0
  generalize harg9.unread xs0 = fxs0 at exs0 ⊢
  subst exs0
  rfl
/-- The last point of a batch, with a valid position, steps the running sum. -/
theorem sout0_E_1_eq (hc0 : ¬cond0_0 i) (hc2 : cond0_2 i) (hc1 : cond0_1 i (word c i xt0)) :
    sout0_E_1 c i arg3 harg3 arg4 harg4 arg5 harg5 arg6 harg6 arg7 harg7 arg8 harg8 arg9 harg9 arg10 harg10 arg11 harg11 hc0 hc2 x0 x1 x2 x3 x4 xt0 xs0 xs1 xs2 hc1
      = stepL (BitVec.ofNat 32 (i 1).val) (word c i xt0) x0 x1 x2 xs0 xs1 := by
  unfold sout0_E_1
  rw [View.read_writes_eq_canon _ _ _ (scover0_E_1 c i arg3 harg3 arg4 harg4 arg5 harg5 arg6 harg6 arg7 harg7 arg8 harg8 arg9 harg9 arg10 harg10 arg11 harg11 hc0 hc2 x0 x1 x2 x3 x4 xt0 xs0 xs1 xs2 hc1)]
  unfold kernelRun0_E
  dsimp only
  sl_unfold_words
  have ex0 := harg3.read_unread x0
  generalize harg3.unread x0 = fx0 at ex0 ⊢
  subst ex0
  have ex1 := harg4.read_unread x1
  generalize harg4.unread x1 = fx1 at ex1 ⊢
  subst ex1
  have ex2 := harg5.read_unread x2
  generalize harg5.unread x2 = fx2 at ex2 ⊢
  subst ex2
  have exs0 := harg9.read_unread xs0
  generalize harg9.unread xs0 = fxs0 at exs0 ⊢
  subst exs0
  have exs1 := harg10.read_unread xs1
  generalize harg10.unread xs1 = fxs1 at exs1 ⊢
  subst exs1
  rfl
/-- The last point of a batch, with a valid position, steps the accumulator. -/
theorem sout0_E_2_eq (hc0 : ¬cond0_0 i) (hc2 : cond0_2 i) (hc1 : cond0_1 i (word c i xt0)) :
    sout0_E_2 c i arg3 harg3 arg4 harg4 arg5 harg5 arg6 harg6 arg7 harg7 arg8 harg8 arg9 harg9 arg10 harg10 arg11 harg11 hc0 hc2 x0 x1 x2 x3 x4 xt0 xs0 xs1 xs2 hc1
      = stepA (BitVec.ofNat 32 (i 1).val) (word c i xt0) x0 x1 x2 x3 x4 xs0 xs2 := by
  unfold sout0_E_2
  rw [View.read_writes_eq_canon _ _ _ (scover0_E_2 c i arg3 harg3 arg4 harg4 arg5 harg5 arg6 harg6 arg7 harg7 arg8 harg8 arg9 harg9 arg10 harg10 arg11 harg11 hc0 hc2 x0 x1 x2 x3 x4 xt0 xs0 xs1 xs2 hc1)]
  unfold kernelRun0_E
  dsimp only
  sl_unfold_words
  have ex0 := harg3.read_unread x0
  generalize harg3.unread x0 = fx0 at ex0 ⊢
  subst ex0
  have ex1 := harg4.read_unread x1
  generalize harg4.unread x1 = fx1 at ex1 ⊢
  subst ex1
  have ex2 := harg5.read_unread x2
  generalize harg5.unread x2 = fx2 at ex2 ⊢
  subst ex2
  have ex3 := harg6.read_unread x3
  generalize harg6.unread x3 = fx3 at ex3 ⊢
  subst ex3
  have ex4 := harg7.read_unread x4
  generalize harg7.unread x4 = fx4 at ex4 ⊢
  subst ex4
  have exs0 := harg9.read_unread xs0
  generalize harg9.unread xs0 = fxs0 at exs0 ⊢
  subst exs0
  have exs2 := harg11.read_unread xs2
  generalize harg11.unread xs2 = fxs2 at exs2 ⊢
  subst exs2
  rfl
/-- The first point of a batch, with a valid position, steps from the reset contents the running maximum. -/
theorem sout0_A_0_eq (hc0 : cond0_0 i) (hc2 : ¬cond0_2 i) (hc1 : cond0_1 i (word c i xt0)) :
    sout0_A_0 c i arg3 harg3 arg4 harg4 arg5 harg5 arg6 harg6 arg7 harg7 arg8 harg8 arg9 harg9 arg10 harg10 arg11 harg11 hc0 hc2 x0 x1 x2 x3 x4 xt0 hc1
      = stepM (BitVec.ofNat 32 (i 1).val) (word c i xt0) x0 x1 x2 k0_pay1 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc2 x0 x1 x2 x3 x4 xt0 hc1)]
  unfold kernelRun0_A
  dsimp only
  sl_unfold_words
  have ex0 := harg3.read_unread x0
  generalize harg3.unread x0 = fx0 at ex0 ⊢
  subst ex0
  have ex1 := harg4.read_unread x1
  generalize harg4.unread x1 = fx1 at ex1 ⊢
  subst ex1
  have ex2 := harg5.read_unread x2
  generalize harg5.unread x2 = fx2 at ex2 ⊢
  subst ex2
  rw [canon_rows]
  rw [readCov_hi]
  rw [readCov_lo]
  rfl
/-- The first point of a batch, with a valid position, steps from the reset contents the running sum. -/
theorem sout0_A_1_eq (hc0 : cond0_0 i) (hc2 : ¬cond0_2 i) (hc1 : cond0_1 i (word c i xt0)) :
    sout0_A_1 c i arg3 harg3 arg4 harg4 arg5 harg5 arg6 harg6 arg7 harg7 arg8 harg8 arg9 harg9 arg10 harg10 arg11 harg11 hc0 hc2 x0 x1 x2 x3 x4 xt0 hc1
      = stepL (BitVec.ofNat 32 (i 1).val) (word c i xt0) x0 x1 x2 k0_pay1 k0_pay2 := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc2 x0 x1 x2 x3 x4 xt0 hc1)]
  unfold kernelRun0_A
  dsimp only
  sl_unfold_words
  have ex0 := harg3.read_unread x0
  generalize harg3.unread x0 = fx0 at ex0 ⊢
  subst ex0
  have ex1 := harg4.read_unread x1
  generalize harg4.unread x1 = fx1 at ex1 ⊢
  subst ex1
  have ex2 := harg5.read_unread x2
  generalize harg5.unread x2 = fx2 at ex2 ⊢
  subst ex2
  rw [canon_rows]
  rw [readCov_hi]
  rw [readCov_hi]
  rw [readCov_lo]
  rw [readCov_lo]
  rfl
/-- The first point of a batch, with a valid position, steps from the reset contents the accumulator. -/
theorem sout0_A_2_eq (hc0 : cond0_0 i) (hc2 : ¬cond0_2 i) (hc1 : cond0_1 i (word c i xt0)) :
    sout0_A_2 c i arg3 harg3 arg4 harg4 arg5 harg5 arg6 harg6 arg7 harg7 arg8 harg8 arg9 harg9 arg10 harg10 arg11 harg11 hc0 hc2 x0 x1 x2 x3 x4 xt0 hc1
      = stepA (BitVec.ofNat 32 (i 1).val) (word c i xt0) x0 x1 x2 x3 x4 k0_pay1 k0_pay3 := by
  unfold sout0_A_2
  rw [View.read_writes_eq_canon _ _ _ (scover0_A_2 c i arg3 harg3 arg4 harg4 arg5 harg5 arg6 harg6 arg7 harg7 arg8 harg8 arg9 harg9 arg10 harg10 arg11 harg11 hc0 hc2 x0 x1 x2 x3 x4 xt0 hc1)]
  unfold kernelRun0_A
  dsimp only
  sl_unfold_words
  have ex0 := harg3.read_unread x0
  generalize harg3.unread x0 = fx0 at ex0 ⊢
  subst ex0
  have ex1 := harg4.read_unread x1
  generalize harg4.unread x1 = fx1 at ex1 ⊢
  subst ex1
  have ex2 := harg5.read_unread x2
  generalize harg5.unread x2 = fx2 at ex2 ⊢
  subst ex2
  have ex3 := harg6.read_unread x3
  generalize harg6.unread x3 = fx3 at ex3 ⊢
  subst ex3
  have ex4 := harg7.read_unread x4
  generalize harg7.unread x4 = fx4 at ex4 ⊢
  subst ex4
  rw [canon_rows]
  rw [readCov_hi]
  rw [readCov_hi]
  rw [readCov_lo]
  rw [readCov_lo]
  rfl
/-- The last point of a batch, with a valid position, divides what it leaves in the accumulator by what it leaves in the sum. -/
theorem out0_E_5_eq (hc0 : ¬cond0_0 i) (hc2 : cond0_2 i) (hc1 : cond0_1 i (word c i xt0)) :
    out0_E_5 c i arg3 harg3 arg4 harg4 arg5 harg5 arg6 harg6 arg7 harg7 arg8 harg8 arg9 harg9 arg10 harg10 arg11 harg11 hc0 hc2 x0 x1 x2 x3 x4 xt0 xs0 xs1 xs2 hc1
      = k0_pay5 (stepA (BitVec.ofNat 32 (i 1).val) (word c i xt0) x0 x1 x2 x3 x4 xs0 xs2) (stepL (BitVec.ofNat 32 (i 1).val) (word c i xt0) x0 x1 x2 xs0 xs1) := by
  unfold out0_E_5
  rw [View.read_writes_eq_canon _ _ _ (cover0_E_5 c i arg3 harg3 arg4 harg4 arg5 harg5 arg6 harg6 arg7 harg7 arg8 harg8 arg9 harg9 arg10 harg10 arg11 harg11 hc0 hc2 x0 x1 x2 x3 x4 xt0 xs0 xs1 xs2 hc1)]
  unfold kernelRun0_E
  dsimp only
  sl_unfold_words
  rw [View.canon_unit_zero off3]
  have ex0 := harg3.read_unread x0
  generalize harg3.unread x0 = fx0 at ex0 ⊢
  subst ex0
  have ex1 := harg4.read_unread x1
  generalize harg4.unread x1 = fx1 at ex1 ⊢
  subst ex1
  have ex2 := harg5.read_unread x2
  generalize harg5.unread x2 = fx2 at ex2 ⊢
  subst ex2
  have ex3 := harg6.read_unread x3
  generalize harg6.unread x3 = fx3 at ex3 ⊢
  subst ex3
  have ex4 := harg7.read_unread x4
  generalize harg7.unread x4 = fx4 at ex4 ⊢
  subst ex4
  have exs0 := harg9.read_unread xs0
  generalize harg9.unread xs0 = fxs0 at exs0 ⊢
  subst exs0
  have exs1 := harg10.read_unread xs1
  generalize harg10.unread xs1 = fxs1 at exs1 ⊢
  subst exs1
  have exs2 := harg11.read_unread xs2
  generalize harg11.unread xs2 = fxs2 at exs2 ⊢
  subst exs2
  rw [readCov_rows, readCov_rows]
  rfl
/-- The last point of a batch, with no valid position, divides the accumulator by the sum as they are. -/
theorem out0_F_5_eq (hc0 : ¬cond0_0 i) (hc2 : cond0_2 i) (hc1 : ¬cond0_1 i (word c i xt0)) :
    out0_F_5 c i arg3 harg3 arg4 harg4 arg5 harg5 arg6 harg6 arg7 harg7 arg8 harg8 arg9 harg9 arg10 harg10 arg11 harg11 hc0 hc2 x0 x1 x2 x3 x4 xt0 xs0 xs1 xs2 hc1
      = k0_pay5 xs2 xs1 := by
  unfold out0_F_5
  rw [View.read_writes_eq_canon _ _ _ (cover0_F_5 c i arg3 harg3 arg4 harg4 arg5 harg5 arg6 harg6 arg7 harg7 arg8 harg8 arg9 harg9 arg10 harg10 arg11 harg11 hc0 hc2 x0 x1 x2 x3 x4 xt0 xs0 xs1 xs2 hc1)]
  unfold kernelRun0_F
  dsimp only
  sl_unfold_words
  rw [View.canon_unit_zero off3]
  have exs1 := harg10.read_unread xs1
  generalize harg10.unread xs1 = fxs1 at exs1 ⊢
  subst exs1
  have exs2 := harg11.read_unread xs2
  generalize harg11.unread xs2 = fxs2 at exs2 ⊢
  subst exs2
  exact congrArg₂ k0_pay5 (View.ld_unit_zero off2 inb_S16x128_S16x128_0_0 _) (View.ld_unit_zero off2 inb_S16x128_S16x128_0_0 _)

end Cert.KernelIdeal.Decode

end
-- ==== Proof.Heads.lean ====
/- One head's payloads at an index, over the extended reals: the masked scores of a block, the new maximum, the rescaling
   factor, the exponentials, the new sum and the new accumulator rows. -/
module

public import proofs.«01_k».proof.Proof.Steps
public import Idealize.ShloMosaic.Lib.Pointwise

@[expose] public section

set_option maxRecDepth 16384

noncomputable section

namespace Cert.KernelIdeal.Decode

open Idealize.ShloMosaic Idealize.ShloMosaic.TcCoe
open Cert.KernelIdeal Cert.KernelIdeal.Gen

/-- The score of a query row against a cache row: their dot product, scaled, masked to `⊥` from the length on. -/
def score (a n : BitVec 32) (j : Nat) (q : Fin 128 → EReal) (k : Fin 128 → BitVec 8) (ks : EReal) : EReal :=
  Scalar.select (IntOp.cmpi .slt (IntOp.addi (Scalar.muli a 8192#32) (BitVec.ofNat 32 j)) n)
    (((∑ d : Fin 128, q d * FloatOps.sitofp (F := Ideal) .bf16 (k d)) * ks) * Ideal.ofBits .f32 0x3DB504F3#32) (⊥ : EReal)

/-- The word of minus infinity. -/
theorem ofBits_bot : Ideal.ofBits .f32 0xFF800000#32 = ⊥ := by
  simp [Ideal.ofBits, Ideal.ieee]

variable (a n : BitVec 32) (q : Vec Ideal S1x8x128 .bf16) (k : Vec Ideal S1x1x8192x128 .i8) (ks : Vec Ideal S1x1x8192 .f32)

/-- The masked scores of the block. -/
theorem pay7_apply (r : Fin 8) (j : Fin 8192) :
    k0_pay7 (F := Ideal) a n q k ks (ix2 r j) = score a n j.val (fun d => q (ix3 0 r d)) (fun d => k (ix4 0 0 j d)) (ks (ix3 0 0 j)) := by
  unfold score
  rw [← ofBits_bot]
  pointwise [k0_pay7, k0_pay6]

/-- The new maximum: the old one and the greatest of the block's scores. -/
theorem pay8_apply (mo : Vec Ideal S8x128 .f32) (r : Fin 8) (c : Fin 128) :
    k0_pay8 (F := Ideal) a n q k ks mo (ix2 r c) = max (mo (ix2 r c))
      ((Finset.univ : Finset (Fin 8192)).fold max ⊥ fun j => k0_pay7 (F := Ideal) a n q k ks (ix2 r j)) := by
  pointwise [k0_pay8]
  rw [ofBits_bot]

/-- The factor that rescales what was carried. -/
theorem pay9_apply (mo : Vec Ideal S8x128 .f32) (r : Fin 8) (c : Fin 128) :
    k0_pay9 (F := Ideal) a n q k ks mo (ix2 r c) = Ideal.exp (mo (ix2 r c) - k0_pay8 (F := Ideal) a n q k ks mo (ix2 r c)) := by
  pointwise [k0_pay9]

/-- The exponentials of the block's scores less the new maximum. -/
theorem pay10_apply (mo : Vec Ideal S8x128 .f32) (r : Fin 8) (j : Fin 8192) :
    k0_pay10 (F := Ideal) a n q k ks mo (ix2 r j) = Ideal.exp (k0_pay7 (F := Ideal) a n q k ks (ix2 r j) - k0_pay8 (F := Ideal) a n q k ks mo (ix2 r 0)) := by
  pointwise [k0_pay10]

/-- The new sum of exponentials. -/
theorem pay11_apply (mo l : Vec Ideal S8x128 .f32) (r : Fin 8) (c : Fin 128) :
    k0_pay11 (F := Ideal) a n q k ks mo l (ix2 r c) = l (ix2 r c) * k0_pay9 (F := Ideal) a n q k ks mo (ix2 r c)
      + ∑ j : Fin 8192, k0_pay10 (F := Ideal) a n q k ks mo (ix2 r j) := by
  pointwise [k0_pay11]

/-- The weighted values of the block. -/
theorem pay13_apply (f : Vec Ideal S8x128 .f32) (p : Vec Ideal S8x8192 .f32) (vs : Vec Ideal S1x1x8192 .f32) (v : Vec Ideal S1x1x8192x128 .i8)
    (ao : Vec Ideal S8x128 .f32) (r : Fin 8) (c : Fin 128) :
    k0_pay13 (F := Ideal) f p vs v ao (ix2 r c) = ao (ix2 r c) * f (ix2 r c)
      + ∑ j : Fin 8192, (p (ix2 r j) * vs (ix3 0 0 j)) * FloatOps.sitofp (F := Ideal) .bf16 (v (ix4 0 0 j c)) := by
  pointwise [k0_pay13]

end Cert.KernelIdeal.Decode
end
-- ==== Proof.StepValue.lean ====
/- What one grid point leaves in the scratch arrays, at an index, over the extended reals: with the masked scores of the point's
   block, the new maximum, sum and accumulator of a row, from the old ones. -/
module

public import proofs.«01_k».proof.Proof.Heads

@[expose] public section

set_option maxRecDepth 16384

noncomputable section

namespace Cert.KernelIdeal.Decode

open Idealize.ShloMosaic Idealize.ShloMosaic.TcCoe
open Cert.KernelIdeal Cert.KernelIdeal.Gen

/-- Row `r` of head `g` among the 16 rows. -/
def row (g : Fin 2) (r : Fin 8) : Fin 16 := ⟨8 * g.val + r.val, by omega⟩

/-- Each of the 16 rows is a row of one of the two heads. -/
theorem row_cases (y : Fin 16) : ∃ g r, y = row g r :=
  ⟨⟨y.val / 8, by omega⟩, ⟨y.val % 8, by omega⟩, Fin.ext (by simp only [row]; omega)⟩

/-- The two rectangles of rows, at an index of theirs. -/
theorem emb_lo (r : Fin 8) (c : Fin 128) :
    (Rect.unit (s := S16x128) ![0, 0] S8x128.size inb_S16x128_S8x128_0_0).emb (ix2 r c) = ix2 (row 0 r) c := by
  funext a
  apply Fin.ext
  rw [Rect.emb_apply]
  match a with
  | ⟨0, _⟩ => show 0 + 1 * r.val = 8 * 0 + r.val; omega
  | ⟨1, _⟩ => show 0 + 1 * c.val = c.val; omega
theorem emb_hi (r : Fin 8) (c : Fin 128) :
    (Rect.unit (s := S16x128) ![8, 0] S8x128.size inb_S16x128_S8x128_8_0).emb (ix2 r c) = ix2 (row 1 r) c := by
  funext a
  apply Fin.ext
  rw [Rect.emb_apply]
  match a with
  | ⟨0, _⟩ => show 8 + 1 * r.val = 8 * 1 + r.val; omega
  | ⟨1, _⟩ => show 0 + 1 * c.val = c.val; omega

/-- The two heads' rows put together, at a row of each head. -/
theorem rows_lo (h0 h1 : Vec Ideal S8x128 .f32) (r : Fin 8) (c : Fin 128) : rows (F := Ideal) h0 h1 (ix2 (row 0 r) c) = h0 (ix2 r c) := by
  unfold rows halves
  rw [View.canon_cons_of_not_mem, ← emb_lo, View.canon_cons_emb]
  rw [Rect.mem_set_unit]
  intro h
  have h0 := (h 0).1
  have h1 : 8 ≤ 8 * 0 + r.val := h0
  omega
theorem rows_hi (h0 h1 : Vec Ideal S8x128 .f32) (r : Fin 8) (c : Fin 128) : rows (F := Ideal) h0 h1 (ix2 (row 1 r) c) = h1 (ix2 r c) := by
  unfold rows halves
  rw [← emb_hi, View.canon_cons_emb]

/-- The loads of each head's part, at an index. -/
theorem lo_apply (X : Vec Ideal S16x128 .f32) (r : Fin 8) (c : Fin 128) : lo X (ix2 r c) = X (ix2 (row 0 r) c) := congrArg X (emb_lo r c)
theorem hi_apply (X : Vec Ideal S16x128 .f32) (r : Fin 8) (c : Fin 128) : hi X (ix2 r c) = X (ix2 (row 1 r) c) := congrArg X (emb_hi r c)
theorem loQ_apply (X : Vec Ideal S1x16x128 .bf16) (r : Fin 8) (d : Fin 128) : loQ X (ix3 0 r d) = X (ix3 0 (row 0 r) d) := by
  refine congrArg X (funext fun a => Fin.ext ?_)
  match a with
  | ⟨0, _⟩ => rfl
  | ⟨1, _⟩ => show 0 + 1 * r.val = 8 * 0 + r.val; omega
  | ⟨2, _⟩ => show 0 + 1 * d.val = d.val; omega
theorem hiQ_apply (X : Vec Ideal S1x16x128 .bf16) (r : Fin 8) (d : Fin 128) : hiQ X (ix3 0 r d) = X (ix3 0 (row 1 r) d) := by
  refine congrArg X (funext fun a => Fin.ext ?_)
  match a with
  | ⟨0, _⟩ => rfl
  | ⟨1, _⟩ => show 8 + 1 * r.val = 8 * 1 + r.val; omega
  | ⟨2, _⟩ => show 0 + 1 * d.val = d.val; omega
theorem loK_apply (X : Vec Ideal S1x2x8192x128 .i8) (j : Fin 8192) (d : Fin 128) : loK X (ix4 0 0 j d) = X (ix4 0 0 j d) := by
  refine congrArg X (funext fun a => Fin.ext ?_)
  match a with
  | ⟨0, _⟩ => rfl
  | ⟨1, _⟩ => rfl
  | ⟨2, _⟩ => show 0 + 1 * j.val = j.val; omega
  | ⟨3, _⟩ => show 0 + 1 * d.val = d.val; omega
theorem hiK_apply (X : Vec Ideal S1x2x8192x128 .i8) (j : Fin 8192) (d : Fin 128) : hiK X (ix4 0 0 j d) = X (ix4 0 1 j d) := by
  refine congrArg X (funext fun a => Fin.ext ?_)
  match a with
  | ⟨0, _⟩ => rfl
  | ⟨1, _⟩ => rfl
  | ⟨2, _⟩ => show 0 + 1 * j.val = j.val; omega
  | ⟨3, _⟩ => show 0 + 1 * d.val = d.val; omega
theorem loS_apply (X : Vec Ideal S1x2x8192 .f32) (j : Fin 8192) : loS X (ix3 0 0 j) = X (ix3 0 0 j) := by
  refine congrArg X (funext fun a => Fin.ext ?_)
  match a with
  | ⟨0, _⟩ => rfl
  | ⟨1, _⟩ => rfl
  | ⟨2, _⟩ => show 0 + 1 * j.val = j.val; omega
theorem hiS_apply (X : Vec Ideal S1x2x8192 .f32) (j : Fin 8192) : hiS X (ix3 0 0 j) = X (ix3 0 1 j) := by
  refine congrArg X (funext fun a => Fin.ext ?_)
  match a with
  | ⟨0, _⟩ => rfl
  | ⟨1, _⟩ => rfl
  | ⟨2, _⟩ => show 0 + 1 * j.val = j.val; omega

variable (a n : BitVec 32) (q : Vec Ideal S1x16x128 .bf16) (k : Vec Ideal S1x2x8192x128 .i8) (ks : Vec Ideal S1x2x8192 .f32)

/-- The masked scores of the block: query row `r` of head `g` against the block's cache row `j`. -/
def sc (g : Fin 2) (r : Fin 8) (j : Fin 8192) : EReal :=
  score a n j.val (fun d => q (ix3 0 (row g r) d)) (fun d => k (ix4 0 g j d)) (ks (ix3 0 g j))

theorem pay7_lo (r : Fin 8) (j : Fin 8192) : k0_pay7 (F := Ideal) a n (loQ q) (loK k) (loS ks) (ix2 r j) = sc a n q k ks 0 r j := by
  rw [pay7_apply]
  unfold sc
  rw [loS_apply, funext fun d => loQ_apply q r d, funext fun d => loK_apply k j d]
theorem pay7_hi (r : Fin 8) (j : Fin 8192) : k0_pay7 (F := Ideal) a n (hiQ q) (hiK k) (hiS ks) (ix2 r j) = sc a n q k ks 1 r j := by
  rw [pay7_apply]
  unfold sc
  rw [hiS_apply, funext fun d => hiQ_apply q r d, funext fun d => hiK_apply k j d]

/-- The new running maximum: the old one and the greatest of the block's scores. -/
theorem stepM_apply (mo : Vec Ideal S16x128 .f32) (g : Fin 2) (r : Fin 8) (c : Fin 128) :
    stepM (F := Ideal) a n q k ks mo (ix2 (row g r) c) = max (mo (ix2 (row g r) c)) ((Finset.univ : Finset (Fin 8192)).fold max ⊥ fun j => sc a n q k ks g r j) := by
  unfold stepM
  match g with
  | 0 => rw [rows_lo, k0_pay14, shapeCast_self, pay8_apply, lo_apply]; simp only [pay7_lo]
  | 1 => rw [rows_hi, k0_pay14, shapeCast_self, pay8_apply, hi_apply]; simp only [pay7_hi]

/-- The new running sum: the old one rescaled to the new maximum, and the block's exponentials. -/
theorem stepL_apply (mo l : Vec Ideal S16x128 .f32) (g : Fin 2) (r : Fin 8) (c : Fin 128) :
    stepL (F := Ideal) a n q k ks mo l (ix2 (row g r) c)
      = l (ix2 (row g r) c) * Ideal.exp (mo (ix2 (row g r) c) - stepM (F := Ideal) a n q k ks mo (ix2 (row g r) c))
        + ∑ j : Fin 8192, Ideal.exp (sc a n q k ks g r j - stepM (F := Ideal) a n q k ks mo (ix2 (row g r) 0)) := by
  rw [stepM_apply, stepM_apply]
  unfold stepL
  match g with
  | 0 => rw [rows_lo, k0_pay12, shapeCast_self, pay11_apply, lo_apply, pay9_apply, pay8_apply, lo_apply, funext fun j => pay7_lo a n q k ks r j]; refine congrArg _ (Finset.sum_congr rfl fun j _ => ?_); rw [pay10_apply, pay8_apply, pay7_lo, lo_apply]; simp only [pay7_lo]
  | 1 => rw [rows_hi, k0_pay12, shapeCast_self, pay11_apply, hi_apply, pay9_apply, pay8_apply, hi_apply, funext fun j => pay7_hi a n q k ks r j]; refine congrArg _ (Finset.sum_congr rfl fun j _ => ?_); rw [pay10_apply, pay8_apply, pay7_hi, hi_apply]; simp only [pay7_hi]

/-- The new accumulator: the old one rescaled to the new maximum, and the block's exponentials, scaled, against its value rows. -/
theorem stepA_apply (v : Vec Ideal S1x2x8192x128 .i8) (vs : Vec Ideal S1x2x8192 .f32) (mo ao : Vec Ideal S16x128 .f32) (g : Fin 2) (r : Fin 8) (c : Fin 128) :
    stepA (F := Ideal) a n q k ks v vs mo ao (ix2 (row g r) c)
      = ao (ix2 (row g r) c) * Ideal.exp (mo (ix2 (row g r) c) - stepM (F := Ideal) a n q k ks mo (ix2 (row g r) c))
        + ∑ j : Fin 8192, (Ideal.exp (sc a n q k ks g r j - stepM (F := Ideal) a n q k ks mo (ix2 (row g r) 0)) * vs (ix3 0 g j))
            * FloatOps.sitofp (F := Ideal) .bf16 (v (ix4 0 g j c)) := by
  rw [stepM_apply, stepM_apply]
  unfold stepA headA
  match g with
  | 0 => rw [rows_lo, pay13_apply, lo_apply, pay9_apply, pay8_apply, lo_apply, funext fun j => pay7_lo a n q k ks r j]; refine congrArg _ (Finset.sum_congr rfl fun j _ => ?_); rw [pay10_apply, pay8_apply, pay7_lo, lo_apply, loK_apply, loS_apply]; simp only [pay7_lo]
  | 1 => rw [rows_hi, pay13_apply, hi_apply, pay9_apply, pay8_apply, hi_apply, funext fun j => pay7_hi a n q k ks r j]; refine congrArg _ (Finset.sum_congr rfl fun j _ => ?_); rw [pay10_apply, pay8_apply, pay7_hi, hi_apply, hiK_apply, hiS_apply]; simp only [pay7_hi]

/-- The reset contents of the three arrays, and the output block of the last point: the accumulator over the sum. -/
theorem pay1_apply (y : Fin 16) (c : Fin 128) : k0_pay1 (F := Ideal) (ix2 y c) = ⊥ := by
  rw [← ofBits_bot]; pointwise [k0_pay1]
theorem pay2_apply (y : Fin 16) (c : Fin 128) : k0_pay2 (F := Ideal) (ix2 y c) = 0 := by
  pointwise [k0_pay2]
theorem pay3_apply (y : Fin 16) (c : Fin 128) : k0_pay3 (F := Ideal) (ix2 y c) = 0 := by
  pointwise [k0_pay3]
theorem pay5_apply (A L : Vec Ideal S16x128 .f32) (y : Fin 16) (c : Fin 128) :
    k0_pay5 (F := Ideal) A L (ix3 0 y c) = Ideal.div (A (ix2 y c)) (L (ix2 y c)) := by
  pointwise [k0_pay5]

end Cert.KernelIdeal.Decode
end
-- ==== Proof.OkIdeal.lean ====
/- The side condition of the prefetched lengths, for the idealized kernel: when every length is at least 1, each cache and scale
   window's block is inside its array at every grid point. -/
module

public import proofs.«01_k».proof.Proof.Gen.KernelIdeal.Frame.Runs
public import Idealize.ShloMosaic.Lib.ValueIdxCore
public import proofs.«01_k».proof.Proof.BlockIndex

@[expose] public section

namespace Cert.KernelIdeal.Decode

open Idealize.ShloMosaic Idealize.ShloMosaic.TcCoe Cert.Decode
open Cert.KernelIdeal Cert.KernelIdeal.Gen

variable {F : FTy → Type} [FloatOps F]
variable (m : (ℓ : Loc nD τ sig) → Buf (Elt F) ℓ)

/-- The length of batch `b` as launched. -/
abbrev len (b : Fin 8) : BitVec 32 := m (((0 : Dev nD) : Thread nD τ).loc main_arg5) (show S8.Idx from ValueIdx.ix1 b)

/-- The word an index map reads from the prefetched table at grid point `i`: the length of batch `i 0`. -/
theorem tbl_at (i : grid0.Coords) :
    (tbl m).at 0 (Rect.unit (s := S8) ![(Scalar.indexCast (BitVec.ofNat 32 (i 0).val)).toNat] S1.size (k0_off1_inb i)) numel1_S1 = len m (i 0) := by
  show V m 0 main_arg5 _ = _
  rw [V_main_arg5]
  refine congrArg (m (((0 : Dev nD) : Thread nD τ).loc main_arg5)) ?_
  refine funext fun (a : Fin 1) => ?_
  obtain rfl : a = 0 := Subsingleton.elim _ _
  apply Fin.ext
  have h : (i 0).val < 8 := (i 0).isLt
  show (BitVec.ofNat 32 (i 0).val).toNat + 1 * 0 = (i 0).val
  rw [BitVec.toNat_ofNat]; omega

/-- What the index maps of the caches and the scales return. -/
theorem transform_1_eq (i : grid0.Coords) :
    cc0_transform_1 k0_off1_inb numel1_S1 (tbl m) i = ![(BitVec.ofNat 32 (i 0).val).toNat, 0, (blockWord (len m (i 0)) (i 1).val).toNat, 0] := by
  rw [← tbl_at m i]; rfl
theorem transform_2_eq (i : grid0.Coords) :
    cc0_transform_2 k0_off1_inb numel1_S1 (tbl m) i = ![(BitVec.ofNat 32 (i 0).val).toNat, 0, (blockWord (len m (i 0)) (i 1).val).toNat] := by
  rw [← tbl_at m i]; rfl
theorem transform_3_eq (i : grid0.Coords) :
    cc0_transform_3 k0_off1_inb numel1_S1 (tbl m) i = ![(BitVec.ofNat 32 (i 0).val).toNat, 0, (blockWord (len m (i 0)) (i 1).val).toNat, 0] := by
  rw [← tbl_at m i]; rfl
theorem transform_4_eq (i : grid0.Coords) :
    cc0_transform_4 k0_off1_inb numel1_S1 (tbl m) i = ![(BitVec.ofNat 32 (i 0).val).toNat, 0, (blockWord (len m (i 0)) (i 1).val).toNat] := by
  rw [← tbl_at m i]; rfl

/-- Lengths of at least 1 keep every block inside its array. -/
theorem ok_of_pos (h : ∀ b, 1 ≤ (len m b).toInt) : Ok m := by
  have hb (i : grid0.Coords) : (BitVec.ofNat 32 (i 0).val).toNat < 8 := by
    have h : (i 0).val < 8 := (i 0).isLt
    rw [BitVec.toNat_ofNat]; omega
  have hk (i : grid0.Coords) : (blockWord (len m (i 0)) (i 1).val).toNat < 8 := blockWord_lt (h _) (i 1).isLt
  refine ⟨fun i => ?_, fun i => ?_, fun i => ?_, fun i => ?_⟩
  · have hin : ∀ a, (cc0_transform_1 k0_off1_inb numel1_S1 (tbl m) i a + 1) * S1x2x8192x128.size a ≤ S8x2x65536x128.size a := by
      intro a
      have := hb i; have := hk i
      rw [transform_1_eq]
      fin_cases a <;> simp <;> omega
    exact ⟨hin, .inr (Affine.block_words_dvd (of_decide_eq_true rfl) (by decide))⟩
  · have hin : ∀ a, (cc0_transform_2 k0_off1_inb numel1_S1 (tbl m) i a + 1) * S1x2x8192.size a ≤ S8x2x65536.size a := by
      intro a
      have := hb i; have := hk i
      rw [transform_2_eq]
      fin_cases a <;> simp <;> omega
    exact ⟨hin, .inl rfl⟩
  · have hin : ∀ a, (cc0_transform_3 k0_off1_inb numel1_S1 (tbl m) i a + 1) * S1x2x8192x128.size a ≤ S8x2x65536x128.size a := by
      intro a
      have := hb i; have := hk i
      rw [transform_3_eq]
      fin_cases a <;> simp <;> omega
    exact ⟨hin, .inr (Affine.block_words_dvd (of_decide_eq_true rfl) (by decide))⟩
  · have hin : ∀ a, (cc0_transform_4 k0_off1_inb numel1_S1 (tbl m) i a + 1) * S1x2x8192.size a ≤ S8x2x65536.size a := by
      intro a
      have := hb i; have := hk i
      rw [transform_4_eq]
      fin_cases a <;> simp <;> omega
    exact ⟨hin, .inl rfl⟩

end Cert.KernelIdeal.Decode
-- ==== Proof.Blocks.lean ====
/- The blocks the idealized kernel's windows hold at a grid point, at an index, in terms of the launched arrays: the query through
   the reshape before the call, the caches and their scales through the transposes before it. -/
module

public import proofs.«01_k».proof.Proof.OkIdeal
public import Idealize.ShloMosaic.Lib.Pipeline.Value
public import Idealize.ShloMosaic.Lib.Pointwise
public import Idealize.ShloMosaic.Lib.StableHlo.Run

@[expose] public section

set_option maxRecDepth 16384

noncomputable section

namespace Cert.KernelIdeal.Decode

open Idealize.ShloMosaic Idealize.ShloMosaic.TcCoe Cert.Decode
open Cert.KernelIdeal Cert.KernelIdeal.Gen

variable {F : FTy → Type} [FloatOps F]
variable (m : (ℓ : Loc nD τ sig) → Buf (Elt F) ℓ)

/-- What the host operations before the call leave in the arrays of the windows. -/
theorem V_main_v0 (c : Dev nD) : V m c main_v0 = shapeCast S8x16x128 (m ((c : Thread nD τ).loc main_arg0) : Vec F S8x1x2048 .bf16) shapeCasts_S8x1x2048_S8x16x128 := by
  show StableHlo.after hostOps0 _ (Proc.devRef .tc main_v0) = _
  after_results
  try rfl
theorem V_main_v1 (c : Dev nD) : V m c main_v1 = transpose S8x2x65536x128 [0, 2, 1, 3] (m ((c : Thread nD τ).loc main_arg1) : Vec F S8x65536x2x128 .i8) transposes_S8x65536x2x128_S8x2x65536x128_0_2_1_3 := by
  show StableHlo.after hostOps0 _ (Proc.devRef .tc main_v1) = _
  after_results
  try rfl
theorem V_main_v2 (c : Dev nD) : V m c main_v2 = transpose S8x2x65536x128 [0, 2, 1, 3] (m ((c : Thread nD τ).loc main_arg3) : Vec F S8x65536x2x128 .i8) transposes_S8x65536x2x128_S8x2x65536x128_0_2_1_3 := by
  show StableHlo.after hostOps0 _ (Proc.devRef .tc main_v2) = _
  after_results
  try rfl
theorem V_main_v3 (c : Dev nD) : V m c main_v3 = transpose S8x2x65536 [0, 2, 1] (m ((c : Thread nD τ).loc main_arg2) : Vec F S8x65536x2 .f32) transposes_S8x65536x2_S8x2x65536_0_2_1 := by
  show StableHlo.after hostOps0 _ (Proc.devRef .tc main_v3) = _
  after_results
  try rfl
theorem V_main_v4 (c : Dev nD) : V m c main_v4 = transpose S8x2x65536 [0, 2, 1] (m ((c : Thread nD τ).loc main_arg4) : Vec F S8x65536x2 .f32) transposes_S8x65536x2_S8x2x65536_0_2_1 := by
  show StableHlo.after hostOps0 _ (Proc.devRef .tc main_v4) = _
  after_results
  try rfl

/-- The arrays as launched: the query `x`, the codes `ck`, `cv` and the scales `ks`, `vs` of the two caches. -/
abbrev argX (c : Dev nD) : Vec F S8x1x2048 .bf16 := m ((c : Thread nD τ).loc main_arg0)
abbrev argK (c : Dev nD) : Vec F S8x65536x2x128 .i8 := m ((c : Thread nD τ).loc main_arg1)
abbrev argKs (c : Dev nD) : Vec F S8x65536x2 .f32 := m ((c : Thread nD τ).loc main_arg2)
abbrev argV (c : Dev nD) : Vec F S8x65536x2x128 .i8 := m ((c : Thread nD τ).loc main_arg3)
abbrev argVs (c : Dev nD) : Vec F S8x65536x2 .f32 := m ((c : Thread nD τ).loc main_arg4)

/-- Column `d` of row `y`'s 128 query columns, and position `j` of the `i`-th 8192 cache rows. -/
def col (y : Fin 16) (d : Fin 128) : Fin 2048 := ⟨y.val * 128 + d.val, by omega⟩
def pos (i : Nat) (hi : i < 8) (j : Fin 8192) : Fin 65536 := ⟨i * 8192 + j.val, by omega⟩

theorem v0_apply (c : Dev nD) (b : Fin 8) (y : Fin 16) (d : Fin 128) :
    (V m c main_v0 : Vec F S8x16x128 .bf16) (ix3 b y d) = argX m c (ix3 b 0 (col y d)) := by
  rw [V_main_v0]
  refine shapeCast_apply _ _ _ _ ((rowMajor_val3 _ 2048 2048 rfl rfl).trans (.trans ?_ (rowMajor_val3 _ 2048 128 rfl rfl).symm))
  show b.val * 2048 + 0 * 2048 + (y.val * 128 + d.val) = b.val * 2048 + y.val * 128 + d.val
  omega
theorem v1_apply (c : Dev nD) (b : Fin 8) (g : Fin 2) (t : Fin 65536) (d : Fin 128) :
    (V m c main_v1 : Vec F S8x2x65536x128 .i8) (ix4 b g t d) = argK m c (ix4 b t g d) := by
  rw [V_main_v1]; pointwise
theorem v2_apply (c : Dev nD) (b : Fin 8) (g : Fin 2) (t : Fin 65536) (d : Fin 128) :
    (V m c main_v2 : Vec F S8x2x65536x128 .i8) (ix4 b g t d) = argV m c (ix4 b t g d) := by
  rw [V_main_v2]; pointwise
theorem v3_apply (c : Dev nD) (b : Fin 8) (g : Fin 2) (t : Fin 65536) :
    (V m c main_v3 : Vec F S8x2x65536 .f32) (ix3 b g t) = argKs m c (ix3 b t g) := by
  rw [V_main_v3]; pointwise
theorem v4_apply (c : Dev nD) (b : Fin 8) (g : Fin 2) (t : Fin 65536) :
    (V m c main_v4 : Vec F S8x2x65536 .f32) (ix3 b g t) = argVs m c (ix3 b t g) := by
  rw [V_main_v4]; pointwise

variable (hO : Ok m)

theorem ofNat_coord {n : Nat} (h : n < 8) : (BitVec.ofNat 32 n).toNat = n := by rw [BitVec.toNat_ofNat]; omega

/-- The query block at point `t`: batch `t / 8`'s rows. -/
theorem iblk0_apply (c : Dev nD) (t : Fin (cfgM m hO).N) (b : Fin 8) (hb : grid0.coords t 0 = b) (y : Fin 16) (d : Fin 128) :
    (iblk m hO c 0 t : Vec F S1x16x128 .bf16) (ix3 0 y d) = argX m c (ix3 b 0 (col y d)) := by
  rw [← v0_apply]
  refine congrArg (V m c main_v0) (?_ : (((cfgM m hO).win 0).blk t).view.emb _ = _)
  funext a
  apply Fin.ext
  subst hb
  match a with
  | ⟨0, _⟩ => show (BitVec.ofNat 32 (grid0.coords t 0).val).toNat * 1 + 1 * 0 = (grid0.coords t 0).val; rw [ofNat_coord (grid0.coords t 0).isLt]; omega
  | ⟨1, _⟩ => show 0 * 16 + 1 * y.val = y.val; omega
  | ⟨2, _⟩ => show 0 * 128 + 1 * d.val = d.val; omega

/-- Window 1's block at a point whose block starts below the length: batch `t / 8`'s rows from `8192 * (t % 8)`. -/
theorem iblk1_apply (c : Dev nD) (t : Fin (cfgM m hO).N) (b : Fin 8) (hb : grid0.coords t 0 = b) (i : Nat) (hi : (grid0.coords t 1).val = i) (hi8 : i < 8)
    (hn : 1 ≤ (len m b).toInt) (h : i * 8192 < (len m b).toNat) (g : Fin 2) (j : Fin 8192) (d : Fin 128) :
    (iblk m hO c 1 t : Vec F S1x2x8192x128 .i8) (ix4 0 g j d) = argK m c (ix4 b (pos i hi8 j) g d) := by
  rw [← v1_apply]
  refine congrArg (V m c main_v1) (?_ : (((cfgM m hO).win 1).blk t).view.emb _ = _)
  funext a
  apply Fin.ext
  subst hb hi
  have e := transform_1_eq m (grid0.coords t)
  rw [blockWord_of_lt hn hi8 h] at e
  match a with
  | ⟨0, _⟩ =>
    show cc0_transform_1 k0_off1_inb numel1_S1 (tbl m) (grid0.coords t) 0 * 1 + 1 * 0 = (grid0.coords t 0).val
    rw [e]; show (BitVec.ofNat 32 (grid0.coords t 0).val).toNat * 1 + 1 * 0 = _; rw [ofNat_coord (grid0.coords t 0).isLt]; omega
  | ⟨1, _⟩ =>
    show cc0_transform_1 k0_off1_inb numel1_S1 (tbl m) (grid0.coords t) 1 * 2 + 1 * g.val = g.val
    rw [e]; show 0 * 2 + 1 * g.val = g.val; omega
  | ⟨2, _⟩ =>
    show cc0_transform_1 k0_off1_inb numel1_S1 (tbl m) (grid0.coords t) 2 * 8192 + 1 * j.val = (grid0.coords t 1).val * 8192 + j.val
    rw [e]; show (grid0.coords t 1).val * 8192 + 1 * j.val = _; omega
  | ⟨3, _⟩ =>
    show cc0_transform_1 k0_off1_inb numel1_S1 (tbl m) (grid0.coords t) 3 * 128 + 1 * d.val = d.val
    rw [e]; show 0 * 128 + 1 * d.val = d.val; omega

/-- Window 3's block at a point whose block starts below the length: batch `t / 8`'s rows from `8192 * (t % 8)`. -/
theorem iblk3_apply (c : Dev nD) (t : Fin (cfgM m hO).N) (b : Fin 8) (hb : grid0.coords t 0 = b) (i : Nat) (hi : (grid0.coords t 1).val = i) (hi8 : i < 8)
    (hn : 1 ≤ (len m b).toInt) (h : i * 8192 < (len m b).toNat) (g : Fin 2) (j : Fin 8192) (d : Fin 128) :
    (iblk m hO c 3 t : Vec F S1x2x8192x128 .i8) (ix4 0 g j d) = argV m c (ix4 b (pos i hi8 j) g d) := by
  rw [← v2_apply]
  refine congrArg (V m c main_v2) (?_ : (((cfgM m hO).win 3).blk t).view.emb _ = _)
  funext a
  apply Fin.ext
  subst hb hi
  have e := transform_3_eq m (grid0.coords t)
  rw [blockWord_of_lt hn hi8 h] at e
  match a with
  | ⟨0, _⟩ =>
    show cc0_transform_3 k0_off1_inb numel1_S1 (tbl m) (grid0.coords t) 0 * 1 + 1 * 0 = (grid0.coords t 0).val
    rw [e]; show (BitVec.ofNat 32 (grid0.coords t 0).val).toNat * 1 + 1 * 0 = _; rw [ofNat_coord (grid0.coords t 0).isLt]; omega
  | ⟨1, _⟩ =>
    show cc0_transform_3 k0_off1_inb numel1_S1 (tbl m) (grid0.coords t) 1 * 2 + 1 * g.val = g.val
    rw [e]; show 0 * 2 + 1 * g.val = g.val; omega
  | ⟨2, _⟩ =>
    show cc0_transform_3 k0_off1_inb numel1_S1 (tbl m) (grid0.coords t) 2 * 8192 + 1 * j.val = (grid0.coords t 1).val * 8192 + j.val
    rw [e]; show (grid0.coords t 1).val * 8192 + 1 * j.val = _; omega
  | ⟨3, _⟩ =>
    show cc0_transform_3 k0_off1_inb numel1_S1 (tbl m) (grid0.coords t) 3 * 128 + 1 * d.val = d.val
    rw [e]; show 0 * 128 + 1 * d.val = d.val; omega

/-- Window 2's block at a point whose block starts below the length: batch `t / 8`'s rows from `8192 * (t % 8)`. -/
theorem iblk2_apply (c : Dev nD) (t : Fin (cfgM m hO).N) (b : Fin 8) (hb : grid0.coords t 0 = b) (i : Nat) (hi : (grid0.coords t 1).val = i) (hi8 : i < 8)
    (hn : 1 ≤ (len m b).toInt) (h : i * 8192 < (len m b).toNat) (g : Fin 2) (j : Fin 8192) :
    (iblk m hO c 2 t : Vec F S1x2x8192 .f32) (ix3 0 g j) = argKs m c (ix3 b (pos i hi8 j) g) := by
  rw [← v3_apply]
  refine congrArg (V m c main_v3) (?_ : (((cfgM m hO).win 2).blk t).view.emb _ = _)
  funext a
  apply Fin.ext
  subst hb hi
  have e := transform_2_eq m (grid0.coords t)
  rw [blockWord_of_lt hn hi8 h] at e
  match a with
  | ⟨0, _⟩ =>
    show cc0_transform_2 k0_off1_inb numel1_S1 (tbl m) (grid0.coords t) 0 * 1 + 1 * 0 = (grid0.coords t 0).val
    rw [e]; show (BitVec.ofNat 32 (grid0.coords t 0).val).toNat * 1 + 1 * 0 = _; rw [ofNat_coord (grid0.coords t 0).isLt]; omega
  | ⟨1, _⟩ =>
    show cc0_transform_2 k0_off1_inb numel1_S1 (tbl m) (grid0.coords t) 1 * 2 + 1 * g.val = g.val
    rw [e]; show 0 * 2 + 1 * g.val = g.val; omega
  | ⟨2, _⟩ =>
    show cc0_transform_2 k0_off1_inb numel1_S1 (tbl m) (grid0.coords t) 2 * 8192 + 1 * j.val = (grid0.coords t 1).val * 8192 + j.val
    rw [e]; show (grid0.coords t 1).val * 8192 + 1 * j.val = _; omega

/-- Window 4's block at a point whose block starts below the length: batch `t / 8`'s rows from `8192 * (t % 8)`. -/
theorem iblk4_apply (c : Dev nD) (t : Fin (cfgM m hO).N) (b : Fin 8) (hb : grid0.coords t 0 = b) (i : Nat) (hi : (grid0.coords t 1).val = i) (hi8 : i < 8)
    (hn : 1 ≤ (len m b).toInt) (h : i * 8192 < (len m b).toNat) (g : Fin 2) (j : Fin 8192) :
    (iblk m hO c 4 t : Vec F S1x2x8192 .f32) (ix3 0 g j) = argVs m c (ix3 b (pos i hi8 j) g) := by
  rw [← v4_apply]
  refine congrArg (V m c main_v4) (?_ : (((cfgM m hO).win 4).blk t).view.emb _ = _)
  funext a
  apply Fin.ext
  subst hb hi
  have e := transform_4_eq m (grid0.coords t)
  rw [blockWord_of_lt hn hi8 h] at e
  match a with
  | ⟨0, _⟩ =>
    show cc0_transform_4 k0_off1_inb numel1_S1 (tbl m) (grid0.coords t) 0 * 1 + 1 * 0 = (grid0.coords t 0).val
    rw [e]; show (BitVec.ofNat 32 (grid0.coords t 0).val).toNat * 1 + 1 * 0 = _; rw [ofNat_coord (grid0.coords t 0).isLt]; omega
  | ⟨1, _⟩ =>
    show cc0_transform_4 k0_off1_inb numel1_S1 (tbl m) (grid0.coords t) 1 * 2 + 1 * g.val = g.val
    rw [e]; show 0 * 2 + 1 * g.val = g.val; omega
  | ⟨2, _⟩ =>
    show cc0_transform_4 k0_off1_inb numel1_S1 (tbl m) (grid0.coords t) 2 * 8192 + 1 * j.val = (grid0.coords t 1).val * 8192 + j.val
    rw [e]; show (grid0.coords t 1).val * 8192 + 1 * j.val = _; omega

end Cert.KernelIdeal.Decode
end
-- ==== Proof.Online.lean ====
/- The mathematics of a softmax average taken over a prefix of the positions, over the extended reals: the greatest score, the
   sum of the exponentials and the weighted sum of the values of the first `P` positions, how each of the three grows when the
   prefix grows by a block, and that the quotient of the last two is the average with normalized weights. Nothing here
   mentions a program. -/
module

public import Idealize.ShloMosaic.PureOps.Ideal.Laws

@[expose] public section

noncomputable section

namespace Cert.Online

open Idealize.ShloMosaic

/-- The greatest of the first `P` scores (`-∞` when there is none). -/
def top (s : ℕ → EReal) (P : ℕ) : EReal := (Finset.range P).sup s

/-- The sum of the exponentials of the first `P` scores, each less the greatest. -/
def mass (s : ℕ → EReal) (P : ℕ) : EReal := ∑ t ∈ Finset.range P, Ideal.exp (s t - top s P)

/-- The sum of the first `P` values `v`, each scaled by `w` and weighted by its exponential. -/
def outp (s w v : ℕ → EReal) (P : ℕ) : EReal := ∑ t ∈ Finset.range P, (Ideal.exp (s t - top s P) * w t) * v t

/-- The scores of a row of which `n` positions are valid: real below `n`, `-∞` from `n` on. -/
structure Masked (s : ℕ → EReal) (n : ℕ) : Prop where
  real : ∀ t, t < n → ∃ x : ℝ, s t = x
  bot : ∀ t, n ≤ t → s t = ⊥

variable {s w v : ℕ → EReal} {n : ℕ}

/-- A masked score is not `+∞`. -/
theorem Masked.ne_top (h : Masked s n) (t : ℕ) : s t ≠ ⊤ := by
  by_cases ht : t < n
  · obtain ⟨x, hx⟩ := h.real t ht; rw [hx]; exact EReal.coe_ne_top x
  · rw [h.bot t (not_lt.mp ht)]; exact bot_ne_top

/-- A fold of the maximum from `-∞` over a block of positions is the least upper bound. -/
theorem fold_eq_sup {Q : ℕ} (f : Fin Q → EReal) : (Finset.univ : Finset (Fin Q)).fold max ⊥ f = Finset.univ.sup f := rfl

/-- Growing the prefix by a block: the greatest score is the greater of the old one and the block's. -/
theorem top_add (s : ℕ → EReal) (P Q : ℕ) :
    top s (P + Q) = max (top s P) ((Finset.univ : Finset (Fin Q)).fold max ⊥ fun j => s (P + j.val)) := by
  rw [fold_eq_sup]
  apply le_antisymm
  · refine Finset.sup_le fun t ht => ?_
    rw [Finset.mem_range] at ht
    by_cases h : t < P
    · exact le_max_of_le_left (Finset.le_sup (f := s) (Finset.mem_range.mpr h))
    · refine le_max_of_le_right ?_
      have := Finset.le_sup (f := fun j : Fin Q => s (P + j.val)) (Finset.mem_univ (⟨t - P, by omega⟩ : Fin Q))
      rwa [show P + (t - P) = t by omega] at this
  · refine max_le ?_ ?_
    · refine Finset.sup_le fun t ht => Finset.le_sup (f := s) ?_
      rw [Finset.mem_range] at ht ⊢; omega
    · refine Finset.sup_le fun j _ => Finset.le_sup (f := s) ?_
      rw [Finset.mem_range]; have := j.isLt; omega

/-- Of no positions: the maximum, the sum and the accumulator. -/
theorem top_zero (s : ℕ → EReal) : top s 0 = ⊥ := rfl
theorem mass_zero (s : ℕ → EReal) : mass s 0 = 0 := rfl
theorem outp_zero (s w v : ℕ → EReal) : outp s w v 0 = 0 := rfl

/-- Over all the positions the greatest score is the fold of the maximum. -/
theorem top_eq_fold (s : ℕ → EReal) (P : ℕ) :
    top s P = (Finset.univ : Finset (Fin P)).fold max ⊥ fun j => s j.val := by
  have := top_add s 0 P
  simpa [top_zero] using this

/-- With at least one valid position, the greatest score of a nonempty prefix is real. -/
theorem top_real (h : Masked s n) (hn : 1 ≤ n) {P : ℕ} (hP : 1 ≤ P) : ∃ x : ℝ, top s P = x := by
  have h0 : s 0 ≤ top s P := Finset.le_sup (f := s) (Finset.mem_range.mpr (by omega))
  obtain ⟨x0, hx0⟩ := h.real 0 (by omega)
  have hb : top s P ≠ ⊥ := by
    intro hb; rw [hb, hx0] at h0; exact absurd (le_bot_iff.mp h0) (EReal.coe_ne_bot x0)
  have ht : top s P ≠ ⊤ := by
    refine ne_of_lt ((Finset.sup_lt_iff (bot_lt_top)).mpr fun t _ => lt_top_iff_ne_top.mpr (h.ne_top t))
  exact ⟨(top s P).toReal, (EReal.coe_toReal ht hb).symm⟩

/-- The exponential of a masked score less a real is a real that is not negative. -/
theorem exp_real (h : Masked s n) (t : ℕ) (M : ℝ) : ∃ x : ℝ, 0 ≤ x ∧ Ideal.exp (s t - M) = x := by
  by_cases ht : t < n
  · obtain ⟨x, hx⟩ := h.real t ht
    exact ⟨Real.exp (x - M), (Real.exp_pos _).le, by rw [hx, ← EReal.coe_sub, Ideal.exp_coe]⟩
  · exact ⟨0, le_rfl, by rw [h.bot t (not_lt.mp ht), EReal.bot_sub, Ideal.exp_bot, EReal.coe_zero]⟩

/-- Changing the reference point of an exponential from `M` to `M'` multiplies it by `exp (M - M')`. -/
theorem exp_shift (h : Masked s n) (t : ℕ) (M M' : ℝ) :
    Ideal.exp (s t - M) * Ideal.exp ((M : EReal) - M') = Ideal.exp (s t - M') := by
  by_cases ht : t < n
  · obtain ⟨x, hx⟩ := h.real t ht
    rw [hx, ← EReal.coe_sub, ← EReal.coe_sub, ← EReal.coe_sub, Ideal.exp_coe, Ideal.exp_coe, Ideal.exp_coe, ← EReal.coe_mul,
      ← Real.exp_add, show x - M + (M - M') = x - M' by ring]
  · rw [h.bot t (not_lt.mp ht), EReal.bot_sub, EReal.bot_sub, Ideal.exp_bot, zero_mul]

/-- A real that is not negative distributes over a sum of extended reals. -/
theorem sum_mul_real {ι : Type*} (S : Finset ι) (f : ι → EReal) {a : ℝ} (ha : 0 ≤ a) :
    (∑ t ∈ S, f t) * (a : EReal) = ∑ t ∈ S, f t * a := by
  classical
  induction S using Finset.induction_on with
  | empty => simp
  | insert i S hi ih =>
    rw [Finset.sum_insert hi, Finset.sum_insert hi, ← ih,
      EReal.right_distrib_of_nonneg_of_ne_top (by exact_mod_cast ha) (EReal.coe_ne_top a)]

/-- Growing the prefix by a block: the old sum of exponentials is rescaled and the block's exponentials are added. -/
theorem mass_add (h : Masked s n) (hn : 1 ≤ n) (P : ℕ) {Q : ℕ} (hQ : 1 ≤ Q) :
    mass s (P + Q) = mass s P * Ideal.exp (top s P - top s (P + Q)) + ∑ j : Fin Q, Ideal.exp (s (P + j.val) - top s (P + Q)) := by
  obtain ⟨M', hM'⟩ := top_real h hn (P := P + Q) (by omega)
  conv_lhs => unfold mass
  rw [Finset.sum_range_add, hM', Finset.sum_range (fun x => Ideal.exp (s (P + x) - M'))]
  congr 1
  rcases Nat.eq_zero_or_pos P with rfl | hP
  · simp [mass_zero]
  · obtain ⟨M, hM⟩ := top_real h hn (P := P) hP
    unfold mass
    rw [hM, ← EReal.coe_sub, Ideal.exp_coe, sum_mul_real _ _ (Real.exp_pos _).le]
    refine Finset.sum_congr rfl fun t _ => ?_
    rw [← exp_shift h t M M', ← EReal.coe_sub, Ideal.exp_coe]

/-- Growing the prefix by a block: the old weighted sum is rescaled and the block's weighted values are added. -/
theorem outp_add (w v : ℕ → EReal) (h : Masked s n) (hn : 1 ≤ n) (P : ℕ) {Q : ℕ} (hQ : 1 ≤ Q) :
    outp s w v (P + Q) = outp s w v P * Ideal.exp (top s P - top s (P + Q))
      + ∑ j : Fin Q, (Ideal.exp (s (P + j.val) - top s (P + Q)) * w (P + j.val)) * v (P + j.val) := by
  obtain ⟨M', hM'⟩ := top_real h hn (P := P + Q) (by omega)
  conv_lhs => unfold outp
  rw [Finset.sum_range_add, hM', Finset.sum_range (fun x => Ideal.exp (s (P + x) - M') * w (P + x) * v (P + x))]
  congr 1
  rcases Nat.eq_zero_or_pos P with rfl | hP
  · simp [outp_zero]
  · obtain ⟨M, hM⟩ := top_real h hn (P := P) hP
    unfold outp
    rw [hM, ← EReal.coe_sub, Ideal.exp_coe, sum_mul_real _ _ (Real.exp_pos _).le]
    refine Finset.sum_congr rfl fun t _ => ?_
    rw [← exp_shift h t M M', ← EReal.coe_sub, Ideal.exp_coe]
    simp only [mul_comm, mul_left_comm, mul_assoc]

/-- A block with no valid position leaves the greatest score as it is. -/
theorem top_skip (h : Masked s n) {P : ℕ} (hP : n ≤ P) (Q : ℕ) : top s (P + Q) = top s P := by
  rw [top_add, fold_eq_sup]
  refine max_eq_left ?_
  refine Finset.sup_le fun j _ => ?_
  rw [h.bot _ (by omega)]; exact bot_le

/-- A block with no valid position leaves the sum of exponentials as it is. -/
theorem mass_skip (h : Masked s n) (hn : 1 ≤ n) {P : ℕ} (hP : n ≤ P) (Q : ℕ) : mass s (P + Q) = mass s P := by
  unfold mass
  rw [top_skip h hP, Finset.sum_range_add]
  rw [Finset.sum_eq_zero (s := Finset.range Q) fun t _ => by rw [h.bot _ (by omega), EReal.bot_sub, Ideal.exp_bot], add_zero]

/-- A block with no valid position leaves the weighted sum as it is. -/
theorem outp_skip (w v : ℕ → EReal) (h : Masked s n) (hn : 1 ≤ n) {P : ℕ} (hP : n ≤ P) (Q : ℕ) :
    outp s w v (P + Q) = outp s w v P := by
  unfold outp
  rw [top_skip h hP, Finset.sum_range_add]
  rw [Finset.sum_eq_zero (s := Finset.range Q) fun t _ => by
    rw [h.bot _ (by omega), EReal.bot_sub, Ideal.exp_bot, zero_mul, zero_mul], add_zero]

/-- With at least one valid position the sum of exponentials is a positive real. -/
theorem mass_real (h : Masked s n) (hn : 1 ≤ n) {P : ℕ} (hP : 1 ≤ P) : ∃ x : ℝ, 0 < x ∧ mass s P = x := by
  obtain ⟨M, hM⟩ := top_real h hn hP
  choose e he0 he using fun t => exp_real h t M
  refine ⟨∑ t ∈ Finset.range P, e t, ?_, ?_⟩
  · refine Finset.sum_pos' (fun t _ => he0 t) ⟨0, Finset.mem_range.mpr hP, ?_⟩
    obtain ⟨x, hx⟩ := h.real 0 hn
    have := he 0
    rw [hx, ← EReal.coe_sub, Ideal.exp_coe, EReal.coe_eq_coe_iff] at this
    rw [← this]; exact Real.exp_pos _
  · unfold mass
    rw [hM, Finset.sum_congr rfl fun t _ => he t]
    induction Finset.range P using Finset.induction_on with
    | empty => simp
    | insert i S hi ih => rw [Finset.sum_insert hi, Finset.sum_insert hi, EReal.coe_add, ih]

/-- The weighted sum over the sum of exponentials is the sum of the values weighted by the normalized exponentials. -/
theorem outp_div_mass (w v : ℕ → EReal) (h : Masked s n) (hn : 1 ≤ n) {P : ℕ} (hP : 1 ≤ P) :
    Ideal.div (outp s w v P) (mass s P)
      = ∑ t : Fin P, v t.val * (Ideal.div (Ideal.exp (s t.val - top s P)) (mass s P) * w t.val) := by
  obtain ⟨L, hL0, hL⟩ := mass_real h hn hP
  have hne : (L : EReal) ≠ 0 := by exact_mod_cast hL0.ne'
  unfold outp
  rw [hL]
  unfold Ideal.div
  simp only [if_neg hne]
  rw [← EReal.coe_inv, sum_mul_real _ _ (inv_pos.mpr hL0).le, Finset.sum_range]
  refine Finset.sum_congr rfl fun t _ => ?_
  simp only [mul_comm, mul_left_comm]

end Cert.Online

end
-- ==== Proof.Scores.lean ====
/- The scores of the whole cache, position by position, and the scores of a grid point's block as a stretch of them: a position
   from the length on scores `⊥`. With finite queries and key scales the scores below the length are real. -/
module

public import proofs.«01_k».proof.Proof.StepValue
public import proofs.«01_k».proof.Proof.Blocks
public import proofs.«01_k».proof.Proof.Online

@[expose] public section

set_option maxRecDepth 16384

noncomputable section

namespace Cert.KernelIdeal.Decode

open Idealize.ShloMosaic Idealize.ShloMosaic.TcCoe Cert.Decode
open Cert.KernelIdeal Cert.KernelIdeal.Gen

/-! The comparisons of a position with the length. -/

/-- A positive word reads the same signed and unsigned. -/
theorem toNat_of_pos {n : BitVec 32} (hn : 1 ≤ n.toInt) : n.toInt = n.toNat := by
  have := BitVec.toInt_eq_toNat_cond n
  have := n.isLt
  split_ifs at * <;> omega

/-- A position compared with the length. -/
theorem lt_eq {n : BitVec 32} (hn : 1 ≤ n.toInt) {t : Nat} (ht : t < 65536) :
    IntOp.cmpi .slt (BitVec.ofNat 32 t) n = if t < n.toNat then 1#1 else 0#1 := by
  show BitVec.ofBool ((BitVec.ofNat 32 t).slt n) = _
  have h1 : (BitVec.ofNat 32 t).toInt = (t : Int) := by
    rw [BitVec.toInt_eq_toNat_cond, BitVec.toNat_ofNat]
    split_ifs <;> omega
  rw [BitVec.slt, h1, toNat_of_pos hn]
  by_cases h : t < n.toNat
  · rw [if_pos h, decide_eq_true (by exact_mod_cast h)]; rfl
  · rw [if_neg h, decide_eq_false (by exact_mod_cast h)]; rfl

/-- The position a block's row names, compared with the length. -/
theorem mask_eq {n : BitVec 32} (hn : 1 ≤ n.toInt) {i j : Nat} (hi : i < 8) (hj : j < 8192) :
    IntOp.cmpi .slt (IntOp.addi (Scalar.muli (BitVec.ofNat 32 i) 8192#32) (BitVec.ofNat 32 j)) n = if i * 8192 + j < n.toNat then 1#1 else 0#1 := by
  have e : IntOp.addi (Scalar.muli (BitVec.ofNat 32 i) 8192#32) (BitVec.ofNat 32 j) = BitVec.ofNat 32 (i * 8192 + j) := by
    show BitVec.ofNat 32 i * 8192#32 + BitVec.ofNat 32 j = _
    apply BitVec.eq_of_toNat_eq
    simp only [BitVec.toNat_add, BitVec.toNat_mul, BitVec.toNat_ofNat]
    omega
  rw [e, lt_eq hn (by omega)]

/-- The body takes the step exactly when the block's first position is valid. -/
theorem cond_iff (i : grid0.Coords) {n : BitVec 32} (hn : 1 ≤ n.toInt) : cond0_1 i n ↔ (i 1).val * 8192 < n.toNat := by
  have hi : (i 1).val < 8 := (i 1).isLt
  have e := mask_eq hn hi (show 0 < 8192 by decide)
  have e' : Scalar.cmpi .slt (Scalar.muli (BitVec.ofNat 32 (i 1).val) 8192#32) n = if (i 1).val * 8192 < n.toNat then 1#1 else 0#1 := by
    rw [Nat.add_zero] at e
    rw [← e]
    show IntOp.cmpi .slt _ n = IntOp.cmpi .slt (Scalar.muli (BitVec.ofNat 32 (i 1).val) 8192#32 + BitVec.ofNat 32 0) n
    rw [show (BitVec.ofNat 32 0) = 0#32 from rfl, BitVec.add_zero]
  show Scalar.cmpi .ne (Scalar.extui (Scalar.cmpi .slt (Scalar.muli (BitVec.ofNat 32 (i 1).val) 8192#32) n)) 0#32 = 1#1 ↔ _
  rw [e']
  by_cases h : (i 1).val * 8192 < n.toNat
  · rw [if_pos h]; exact ⟨fun _ => h, fun _ => rfl⟩
  · rw [if_neg h]; exact ⟨fun k => absurd k (by decide), fun k => absurd k h⟩

variable (m : (ℓ : Loc nD τ sig) → Buf (Elt Ideal) ℓ)

/-- The length word the body reads at point `i`. -/
theorem word_eq (i : grid0.Coords) : word (F := Ideal) 0 i (tbl m 0) = len m (i 0) := tbl_at m i

/-! The scores, scales and values of the whole cache, for batch `b`, head `g` and query row `r` of the head. -/

/-- The score of position `t` before the mask: the dot product, scaled. -/
def raw (b : Fin 8) (g : Fin 2) (r : Fin 8) (t : Fin 65536) : EReal :=
  ((∑ d : Fin 128, argX m 0 (ix3 b 0 (col (row g r) d)) * FloatOps.sitofp (F := Ideal) .bf16 (argK m 0 (ix4 b t g d))) * argKs m 0 (ix3 b t g))
    * Ideal.ofBits .f32 0x3DB504F3#32
/-- The masked score of position `t`. -/
def sAt (b : Fin 8) (g : Fin 2) (r : Fin 8) (t : ℕ) : EReal :=
  if h : t < 65536 then if t < (len m b).toNat then raw m b g r ⟨t, h⟩ else ⊥ else ⊥
/-- The value scale of position `t`, and its value in column `c`. -/
def wAt (b : Fin 8) (g : Fin 2) (t : ℕ) : EReal := if h : t < 65536 then argVs m 0 (ix3 b ⟨t, h⟩ g) else 0
def vAt (b : Fin 8) (g : Fin 2) (c : Fin 128) (t : ℕ) : EReal :=
  if h : t < 65536 then FloatOps.sitofp (F := Ideal) .bf16 (argV m 0 (ix4 b ⟨t, h⟩ g c)) else 0

variable (hO : Ok m)

/-- The position is one of the cache. -/
theorem pos_lt {i : Nat} (hi : i < 8) (j : Fin 8192) : i * 8192 + j.val < 65536 := by
  have := j.isLt
  omega

section block
variable {m} {b : Fin 8} {i : Nat} {t : Fin (cfgM m hO).N} (hb : grid0.coords t 0 = b) (hi : (grid0.coords t 1).val = i) (hi8 : i < 8)
  (hn : 1 ≤ (len m b).toInt) (h : i * 8192 < (len m b).toNat)
include hb hi hi8 hn h

/-- The block's scores are the cache's from position `8192 i` on. -/
theorem sc_eq (g : Fin 2) (r : Fin 8) (j : Fin 8192) :
    sc (BitVec.ofNat 32 i) (len m b) (iblk m hO 0 0 t) (iblk m hO 0 1 t) (iblk m hO 0 2 t) g r j = sAt m b g r (i * 8192 + j.val) := by
  have hp : i * 8192 + j.val < 65536 := pos_lt hi8 j
  refine (congr (congrArg₂ (score (BitVec.ofNat 32 i) (len m b) j.val) (funext fun d => iblk0_apply m hO 0 t b hb (row g r) d)
    (funext fun d => iblk1_apply m hO 0 t b hb i hi hi8 hn h g j d)) (iblk2_apply m hO 0 t b hb i hi hi8 hn h g j)).trans ?_
  unfold score sAt raw
  rw [mask_eq hn hi8 j.isLt, dif_pos hp]
  by_cases hl : i * 8192 + j.val < (len m b).toNat
  · rw [if_pos hl, if_pos hl]; rfl
  · rw [if_neg hl, if_neg hl]; rfl

theorem vs_eq (g : Fin 2) (j : Fin 8192) : (iblk m hO 0 4 t : Vec Ideal S1x2x8192 .f32) (ix3 0 g j) = wAt m b g (i * 8192 + j.val) := by
  have hp : i * 8192 + j.val < 65536 := pos_lt hi8 j
  rw [iblk4_apply m hO 0 t b hb i hi hi8 hn h g j, wAt, dif_pos hp]; rfl
theorem v_eq (g : Fin 2) (j : Fin 8192) (c : Fin 128) :
    FloatOps.sitofp (F := Ideal) .bf16 ((iblk m hO 0 3 t : Vec Ideal S1x2x8192x128 .i8) (ix4 0 g j c)) = vAt m b g c (i * 8192 + j.val) := by
  have hp : i * 8192 + j.val < 65536 := pos_lt hi8 j
  rw [iblk3_apply m hO 0 t b hb i hi hi8 hn h g j c, vAt, dif_pos hp]; rfl

end block

/-- A sum of reals is real. -/
theorem sum_real {ι : Type*} (S : Finset ι) (z : ι → ℝ) : ((∑ d ∈ S, z d : ℝ) : EReal) = ∑ d ∈ S, (z d : EReal) := by
  classical
  induction S using Finset.induction with
  | empty => simp
  | insert i S hi ih => rw [Finset.sum_insert hi, Finset.sum_insert hi, EReal.coe_add, ih]

/-- The scale of the scores is real. -/
theorem scale_real : ∃ c : ℝ, Ideal.ofBits .f32 0x3DB504F3#32 = (c : EReal) := by
  show ∃ c : ℝ, Ideal.ieee 8 23 0x3DB504F3#32 = (c : EReal)
  unfold Ideal.ieee
  simp only []
  rw [if_neg (by decide), if_neg (by decide)]
  exact ⟨_, rfl⟩

/-- With finite queries and key scales, the scores are real below the length (and the end of the cache) and `⊥` from there on. -/
theorem masked (hx : ∀ y, ∃ r : ℝ, argX m 0 y = r) (hk : ∀ y, ∃ r : ℝ, argKs m 0 y = r) (b : Fin 8) (g : Fin 2) (r : Fin 8) :
    Cert.Online.Masked (sAt m b g r) (min (len m b).toNat 65536) := by
  constructor
  · intro t ht
    have h1 : t < 65536 := by omega
    have h2 : t < (len m b).toNat := by omega
    have hd (d : Fin 128) : ∃ z : ℝ, argX m 0 (ix3 b 0 (col (row g r) d)) * FloatOps.sitofp (F := Ideal) .bf16 (argK m 0 (ix4 b ⟨t, h1⟩ g d)) = z := by
      obtain ⟨x, ex⟩ := hx (ix3 b 0 (col (row g r) d))
      refine ⟨x * ((argK m 0 (ix4 b ⟨t, h1⟩ g d)).toInt : ℝ), ?_⟩
      rw [ex, EReal.coe_mul]; rfl
    choose z hz using hd
    obtain ⟨k, ek⟩ := hk (ix3 b ⟨t, h1⟩ g)
    obtain ⟨c, ec⟩ := scale_real
    refine ⟨(∑ d, z d) * k * c, ?_⟩
    rw [sAt, dif_pos h1, if_pos h2, raw, ek, ec, Finset.sum_congr rfl fun d _ => hz d, EReal.coe_mul, EReal.coe_mul, sum_real]
  · intro t ht
    unfold sAt
    split_ifs with h1 h2
    · omega
    · rfl
    · rfl

end Cert.KernelIdeal.Decode
end
-- ==== Proof.PointValue.lean ====
/- What each grid point leaves in the scratch arrays and in the output block, in terms of what the point before left: the cases
   of the body's two conditions, assembled. -/
module

public import proofs.«01_k».proof.Proof.Scores

@[expose] public section

set_option maxRecDepth 16384

noncomputable section

namespace Cert.KernelIdeal.Decode

open Idealize.ShloMosaic Idealize.ShloMosaic.TcCoe Cert.Decode
open Cert.KernelIdeal Cert.KernelIdeal.Gen

variable {F : FTy → Type} [FloatOps F]
variable (m : (ℓ : Loc nD τ sig) → Buf (Elt F) ℓ) (hO : Ok m) (c : Dev nD) (t : Fin (cfgM m hO).N)

/-- The running maximum, the sum of exponentials, the weighted sum and the output block after point `t`. -/
abbrev mAt : Vec F S16x128 .f32 := (outsAt0 m hO c t.val t.isLt).2.1
abbrev lAt : Vec F S16x128 .f32 := (outsAt0 m hO c t.val t.isLt).2.2.1
abbrev aAt : Vec F S16x128 .f32 := (outsAt0 m hO c t.val t.isLt).2.2.2
abbrev oAt : Vec F S1x16x128 .bf16 := (outsAt0 m hO c t.val t.isLt).1
/-- The scratch arrays after the point before. -/
abbrev mPrev : Vec F S16x128 .f32 := (outsAt0 m hO c (t.val - 1) (Nat.lt_of_le_of_lt (Nat.sub_le _ _) t.isLt)).2.1
abbrev lPrev : Vec F S16x128 .f32 := (outsAt0 m hO c (t.val - 1) (Nat.lt_of_le_of_lt (Nat.sub_le _ _) t.isLt)).2.2.1
abbrev aPrev : Vec F S16x128 .f32 := (outsAt0 m hO c (t.val - 1) (Nat.lt_of_le_of_lt (Nat.sub_le _ _) t.isLt)).2.2.2
/-- The step of point `t`, over given scratch contents. -/
abbrev nextM (M : Vec F S16x128 .f32) : Vec F S16x128 .f32 :=
  stepM (BitVec.ofNat 32 (grid0.coords t 1).val) (word c (grid0.coords t) (tbl m 0)) (iblk m hO c 0 t) (iblk m hO c 1 t) (iblk m hO c 2 t) M
abbrev nextL (M L : Vec F S16x128 .f32) : Vec F S16x128 .f32 :=
  stepL (BitVec.ofNat 32 (grid0.coords t 1).val) (word c (grid0.coords t) (tbl m 0)) (iblk m hO c 0 t) (iblk m hO c 1 t) (iblk m hO c 2 t) M L
abbrev nextA (M A : Vec F S16x128 .f32) : Vec F S16x128 .f32 :=
  stepA (BitVec.ofNat 32 (grid0.coords t 1).val) (word c (grid0.coords t) (tbl m 0)) (iblk m hO c 0 t) (iblk m hO c 1 t) (iblk m hO c 2 t) (iblk m hO c 3 t) (iblk m hO c 4 t) M A

variable {m hO c t}

/-! A batch's first point. -/

theorem mAt_A (h0 : t.val % 8 = 0) (h1 : cond0_1 (grid0.coords t) (word c (grid0.coords t) (tbl m 0))) (h2 : ¬t.val % 8 = 7) :
    mAt m hO c t = nextM m hO c t k0_pay1 :=
  (congrArg (fun p => p.2.1) (outsAt0_A m hO c t h0 h1 h2)).trans
    (sout0_A_0_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0)  ((hcond0_0 t).mpr h0) (fun h => h2 ((hcond0_2 t).mp h)) h1)
theorem lAt_A (h0 : t.val % 8 = 0) (h1 : cond0_1 (grid0.coords t) (word c (grid0.coords t) (tbl m 0))) (h2 : ¬t.val % 8 = 7) :
    lAt m hO c t = nextL m hO c t k0_pay1 k0_pay2 :=
  (congrArg (fun p => p.2.2.1) (outsAt0_A m hO c t h0 h1 h2)).trans
    (sout0_A_1_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0)  ((hcond0_0 t).mpr h0) (fun h => h2 ((hcond0_2 t).mp h)) h1)
theorem aAt_A (h0 : t.val % 8 = 0) (h1 : cond0_1 (grid0.coords t) (word c (grid0.coords t) (tbl m 0))) (h2 : ¬t.val % 8 = 7) :
    aAt m hO c t = nextA m hO c t k0_pay1 k0_pay3 :=
  (congrArg (fun p => p.2.2.2) (outsAt0_A m hO c t h0 h1 h2)).trans
    (sout0_A_2_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0)  ((hcond0_0 t).mpr h0) (fun h => h2 ((hcond0_2 t).mp h)) h1)

/-! A middle point with a valid position. -/

theorem mAt_C (h0 : ¬t.val % 8 = 0) (h1 : cond0_1 (grid0.coords t) (word c (grid0.coords t) (tbl m 0))) (h2 : ¬t.val % 8 = 7) :
    mAt m hO c t = nextM m hO c t (mPrev m hO c t) :=
  (congrArg (fun p => p.2.1) (outsAt0_C m hO c t h0 h1 h2)).trans
    (sout0_C_0_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (mPrev m hO c t) (lPrev m hO c t) (aPrev m hO c t) (fun h => h0 ((hcond0_0 t).mp h)) (fun h => h2 ((hcond0_2 t).mp h)) h1)
theorem lAt_C (h0 : ¬t.val % 8 = 0) (h1 : cond0_1 (grid0.coords t) (word c (grid0.coords t) (tbl m 0))) (h2 : ¬t.val % 8 = 7) :
    lAt m hO c t = nextL m hO c t (mPrev m hO c t) (lPrev m hO c t) :=
  (congrArg (fun p => p.2.2.1) (outsAt0_C m hO c t h0 h1 h2)).trans
    (sout0_C_1_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (mPrev m hO c t) (lPrev m hO c t) (aPrev m hO c t) (fun h => h0 ((hcond0_0 t).mp h)) (fun h => h2 ((hcond0_2 t).mp h)) h1)
theorem aAt_C (h0 : ¬t.val % 8 = 0) (h1 : cond0_1 (grid0.coords t) (word c (grid0.coords t) (tbl m 0))) (h2 : ¬t.val % 8 = 7) :
    aAt m hO c t = nextA m hO c t (mPrev m hO c t) (aPrev m hO c t) :=
  (congrArg (fun p => p.2.2.2) (outsAt0_C m hO c t h0 h1 h2)).trans
    (sout0_C_2_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (mPrev m hO c t) (lPrev m hO c t) (aPrev m hO c t) (fun h => h0 ((hcond0_0 t).mp h)) (fun h => h2 ((hcond0_2 t).mp h)) h1)

/-! A middle point with none. -/

theorem mAt_D (h0 : ¬t.val % 8 = 0) (h1 : ¬cond0_1 (grid0.coords t) (word c (grid0.coords t) (tbl m 0))) (h2 : ¬t.val % 8 = 7) :
    mAt m hO c t = (mPrev m hO c t) :=
  congrArg (fun p => p.2.1) (outsAt0_D m hO c t h0 h1 h2)
theorem lAt_D (h0 : ¬t.val % 8 = 0) (h1 : ¬cond0_1 (grid0.coords t) (word c (grid0.coords t) (tbl m 0))) (h2 : ¬t.val % 8 = 7) :
    lAt m hO c t = (lPrev m hO c t) :=
  congrArg (fun p => p.2.2.1) (outsAt0_D m hO c t h0 h1 h2)
theorem aAt_D (h0 : ¬t.val % 8 = 0) (h1 : ¬cond0_1 (grid0.coords t) (word c (grid0.coords t) (tbl m 0))) (h2 : ¬t.val % 8 = 7) :
    aAt m hO c t = (aPrev m hO c t) :=
  congrArg (fun p => p.2.2.2) (outsAt0_D m hO c t h0 h1 h2)

/-! A batch's last point with a valid position. -/

theorem mAt_E (h0 : ¬t.val % 8 = 0) (h1 : cond0_1 (grid0.coords t) (word c (grid0.coords t) (tbl m 0))) (h2 : t.val % 8 = 7) :
    mAt m hO c t = nextM m hO c t (mPrev m hO c t) :=
  (congrArg (fun p => p.2.1) (outsAt0_E m hO c t h0 h1 h2)).trans
    (sout0_E_0_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (mPrev m hO c t) (lPrev m hO c t) (aPrev m hO c t) (fun h => h0 ((hcond0_0 t).mp h)) ((hcond0_2 t).mpr h2) h1)
theorem lAt_E (h0 : ¬t.val % 8 = 0) (h1 : cond0_1 (grid0.coords t) (word c (grid0.coords t) (tbl m 0))) (h2 : t.val % 8 = 7) :
    lAt m hO c t = nextL m hO c t (mPrev m hO c t) (lPrev m hO c t) :=
  (congrArg (fun p => p.2.2.1) (outsAt0_E m hO c t h0 h1 h2)).trans
    (sout0_E_1_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (mPrev m hO c t) (lPrev m hO c t) (aPrev m hO c t) (fun h => h0 ((hcond0_0 t).mp h)) ((hcond0_2 t).mpr h2) h1)
theorem aAt_E (h0 : ¬t.val % 8 = 0) (h1 : cond0_1 (grid0.coords t) (word c (grid0.coords t) (tbl m 0))) (h2 : t.val % 8 = 7) :
    aAt m hO c t = nextA m hO c t (mPrev m hO c t) (aPrev m hO c t) :=
  (congrArg (fun p => p.2.2.2) (outsAt0_E m hO c t h0 h1 h2)).trans
    (sout0_E_2_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (mPrev m hO c t) (lPrev m hO c t) (aPrev m hO c t) (fun h => h0 ((hcond0_0 t).mp h)) ((hcond0_2 t).mpr h2) h1)
theorem oAt_E (h0 : ¬t.val % 8 = 0) (h1 : cond0_1 (grid0.coords t) (word c (grid0.coords t) (tbl m 0))) (h2 : t.val % 8 = 7) :
    oAt m hO c t = k0_pay5 (nextA m hO c t (mPrev m hO c t) (aPrev m hO c t)) (nextL m hO c t (mPrev m hO c t) (lPrev m hO c t)) :=
  (congrArg (fun p => p.1) (outsAt0_E m hO c t h0 h1 h2)).trans
    (out0_E_5_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (mPrev m hO c t) (lPrev m hO c t) (aPrev m hO c t) (fun h => h0 ((hcond0_0 t).mp h)) ((hcond0_2 t).mpr h2) h1)

/-! A batch's last point with none. -/

theorem mAt_F (h0 : ¬t.val % 8 = 0) (h1 : ¬cond0_1 (grid0.coords t) (word c (grid0.coords t) (tbl m 0))) (h2 : t.val % 8 = 7) :
    mAt m hO c t = (mPrev m hO c t) :=
  congrArg (fun p => p.2.1) (outsAt0_F m hO c t h0 h1 h2)
theorem lAt_F (h0 : ¬t.val % 8 = 0) (h1 : ¬cond0_1 (grid0.coords t) (word c (grid0.coords t) (tbl m 0))) (h2 : t.val % 8 = 7) :
    lAt m hO c t = (lPrev m hO c t) :=
  congrArg (fun p => p.2.2.1) (outsAt0_F m hO c t h0 h1 h2)
theorem aAt_F (h0 : ¬t.val % 8 = 0) (h1 : ¬cond0_1 (grid0.coords t) (word c (grid0.coords t) (tbl m 0))) (h2 : t.val % 8 = 7) :
    aAt m hO c t = (aPrev m hO c t) :=
  congrArg (fun p => p.2.2.2) (outsAt0_F m hO c t h0 h1 h2)
theorem oAt_F (h0 : ¬t.val % 8 = 0) (h1 : ¬cond0_1 (grid0.coords t) (word c (grid0.coords t) (tbl m 0))) (h2 : t.val % 8 = 7) :
    oAt m hO c t = k0_pay5 (aPrev m hO c t) (lPrev m hO c t) :=
  (congrArg (fun p => p.1) (outsAt0_F m hO c t h0 h1 h2)).trans
    (out0_F_5_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (mPrev m hO c t) (lPrev m hO c t) (aPrev m hO c t) (fun h => h0 ((hcond0_0 t).mp h)) ((hcond0_2 t).mpr h2) h1)

/-- At a batch's last point the output block is the weighted sum over the sum of exponentials, as that point leaves them. -/
theorem oAt_last (h2 : t.val % 8 = 7) : oAt m hO c t = k0_pay5 (aAt m hO c t) (lAt m hO c t) := by
  have h0 : ¬t.val % 8 = 0 := by omega
  by_cases h1 : cond0_1 (grid0.coords t) (word c (grid0.coords t) (tbl m 0))
  · rw [oAt_E h0 h1 h2, aAt_E h0 h1 h2, lAt_E h0 h1 h2]
  · rw [oAt_F h0 h1 h2, aAt_F h0 h1 h2, lAt_F h0 h1 h2]

end Cert.KernelIdeal.Decode
end
-- ==== Proof.Induct.lean ====
/- What the kernel carries between grid points: after the point of batch `b` and block `i`, the scratch arrays hold the greatest
   score, the sum of exponentials and the weighted sum of the first `8192 (i + 1)` positions of the batch. At a batch's last
   point the output block is the weighted sum over the sum of exponentials, over all positions. -/
module

public import proofs.«01_k».proof.Proof.PointValue

@[expose] public section

set_option maxRecDepth 16384

noncomputable section

namespace Cert.KernelIdeal.Decode

open Idealize.ShloMosaic Idealize.ShloMosaic.TcCoe Cert.Decode
open Cert.KernelIdeal Cert.KernelIdeal.Gen
open Cert.Online (top mass outp)

variable (m : (ℓ : Loc nD τ sig) → Buf (Elt Ideal) ℓ)

/-- The three scratch arrays, after the first `P` positions of batch `b`. -/
structure Holds (b : Fin 8) (P : ℕ) (M L A : Vec Ideal S16x128 .f32) : Prop where
  top : ∀ (g : Fin 2) (r : Fin 8) (c : Fin 128), M (ix2 (row g r) c) = top (sAt m b g r) P
  mass : ∀ (g : Fin 2) (r : Fin 8) (c : Fin 128), L (ix2 (row g r) c) = mass (sAt m b g r) P
  outp : ∀ (g : Fin 2) (r : Fin 8) (c : Fin 128), A (ix2 (row g r) c) = outp (sAt m b g r) (wAt m b g) (vAt m b g c) P

/-- What a batch's first point resets the scratch to: no position yet. -/
theorem holds_reset (b : Fin 8) : Holds m b 0 (k0_pay1 (F := Ideal)) (k0_pay2 (F := Ideal)) (k0_pay3 (F := Ideal)) :=
  ⟨fun _ _ _ => pay1_apply _ _, fun _ _ _ => pay2_apply _ _, fun _ _ _ => pay3_apply _ _⟩

variable {m}

/-- The number of valid positions is positive. -/
theorem valid_pos {n : BitVec 32} (hn : 1 ≤ n.toInt) : 1 ≤ min n.toNat 65536 := by
  have := toNat_of_pos hn
  omega

section step
variable (hO : Ok m) {b : Fin 8} {i : Nat} {t : Fin (cfgM m hO).N} {M L A : Vec Ideal S16x128 .f32}

/-- A block with a valid position. -/
theorem holds_step (hM : ∀ g r, Cert.Online.Masked (sAt m b g r) (min (len m b).toNat 65536))
    (hb : grid0.coords t 0 = b) (hi : (grid0.coords t 1).val = i) (hi8 : i < 8)
    (hn : 1 ≤ (len m b).toInt) (h : i * 8192 < (len m b).toNat) (H : Holds m b (i * 8192) M L A) :
    Holds m b (i * 8192 + 8192)
      (stepM (BitVec.ofNat 32 i) (len m b) (iblk m hO 0 0 t) (iblk m hO 0 1 t) (iblk m hO 0 2 t) M)
      (stepL (BitVec.ofNat 32 i) (len m b) (iblk m hO 0 0 t) (iblk m hO 0 1 t) (iblk m hO 0 2 t) M L)
      (stepA (BitVec.ofNat 32 i) (len m b) (iblk m hO 0 0 t) (iblk m hO 0 1 t) (iblk m hO 0 2 t) (iblk m hO 0 3 t) (iblk m hO 0 4 t) M A) := by
  have hm (g : Fin 2) (r : Fin 8) (c : Fin 128) :
      stepM (BitVec.ofNat 32 i) (len m b) (iblk m hO 0 0 t) (iblk m hO 0 1 t) (iblk m hO 0 2 t) M (ix2 (row g r) c)
        = top (sAt m b g r) (i * 8192 + 8192) := by
    refine (stepM_apply _ _ _ _ _ _ _ _ _).trans ?_
    rw [Cert.Online.top_add, H.top, funext fun j => sc_eq hO hb hi hi8 hn h g r j]
  refine ⟨hm, fun g r c => ?_, fun g r c => ?_⟩
  · refine (stepL_apply _ _ _ _ _ _ _ _ _ _).trans ?_
    rw [hm, hm, H.top, H.mass, Cert.Online.mass_add (hM g r) (valid_pos hn) _ (by decide)]
    exact congrArg _ (Finset.sum_congr rfl fun j _ => by rw [sc_eq hO hb hi hi8 hn h g r j])
  · refine (stepA_apply _ _ _ _ _ _ _ _ _ _ _ _).trans ?_
    rw [hm, hm, H.top, H.outp, Cert.Online.outp_add _ _ (hM g r) (valid_pos hn) _ (by decide)]
    refine congrArg _ (Finset.sum_congr rfl fun j _ => ?_)
    exact congrArg₂ _ (congrArg₂ _ (by rw [sc_eq hO hb hi hi8 hn h g r j]) (vs_eq hO hb hi hi8 hn h g j)) (v_eq hO hb hi hi8 hn h g j c)

/-- A block with no valid position changes nothing. -/
theorem holds_skip (hM : ∀ g r, Cert.Online.Masked (sAt m b g r) (min (len m b).toNat 65536))
    (hn : 1 ≤ (len m b).toInt) (h : ¬i * 8192 < (len m b).toNat) (H : Holds m b (i * 8192) M L A) : Holds m b (i * 8192 + 8192) M L A := by
  have hP : min (len m b).toNat 65536 ≤ i * 8192 := by omega
  refine ⟨fun g r c => ?_, fun g r c => ?_, fun g r c => ?_⟩
  · rw [H.top, Cert.Online.top_skip (hM g r) hP]
  · rw [H.mass, Cert.Online.mass_skip (hM g r) (valid_pos hn) hP]
  · rw [H.outp, Cert.Online.outp_skip _ _ (hM g r) (valid_pos hn) hP]

/-- The step as a grid point takes it: the block's number and the length word as the body reads them. -/
theorem holds_step_at (hM : ∀ g r, Cert.Online.Masked (sAt m b g r) (min (len m b).toNat 65536))
    (hb : grid0.coords t 0 = b) (hi : (grid0.coords t 1).val = i) (hi8 : i < 8) (hn : 1 ≤ (len m b).toInt) (h : i * 8192 < (len m b).toNat)
    (H : Holds m b (i * 8192) M L A) :
    Holds m b (i * 8192 + 8192) (nextM m hO 0 t M) (nextL m hO 0 t M L) (nextA m hO 0 t M A) := by
  have hw : word (F := Ideal) 0 (grid0.coords t) (tbl m 0) = len m b := (word_eq m (grid0.coords t)).trans (congrArg (len m) hb)
  have e := holds_step hO hM hb hi hi8 hn h H
  rw [← hi, ← hw] at e
  rw [← hi]
  exact e

end step

/-! The grid's points: point `t` is block `t mod 8` of batch `t / 8`. -/

/-- The batch of a point. -/
def bat (n : ℕ) : Fin 8 := ⟨n / 8 % 8, Nat.mod_lt _ (by decide)⟩

/-- The batch of grid point `t`. -/
theorem coords0_eq (t : Fin grid0.N) : grid0.coords t 0 = bat t.val := Fin.ext (Pipeline.Grid.coords_val t 0 (by decide) rfl)
/-- The block of grid point `t`. -/
theorem coords1_val (t : Fin grid0.N) : (grid0.coords t 1).val = t.val % 8 := by
  have h : (grid0.coords t 1).val = t.val / 1 % 8 := Pipeline.Grid.coords_val t 1 (by decide) rfl
  rw [h, Nat.div_one]

/-- The condition of the step, at a point. -/
theorem step_iff (hn : ∀ b, 1 ≤ (len m b).toInt) (t : Fin grid0.N) :
    cond0_1 (grid0.coords t) (word (F := Ideal) 0 (grid0.coords t) (tbl m 0)) ↔ t.val % 8 * 8192 < (len m (bat t.val)).toNat := by
  have hw : word (F := Ideal) 0 (grid0.coords t) (tbl m 0) = len m (bat t.val) := (word_eq m (grid0.coords t)).trans (congrArg (len m) (coords0_eq t))
  rw [hw, cond_iff _ (hn _), coords1_val]

section points
variable (hO : Ok m) (hn : ∀ b, 1 ≤ (len m b).toInt) (hM : ∀ b g r, Cert.Online.Masked (sAt m b g r) (min (len m b).toNat 65536))
include hn hM

/-- The first point of a batch. -/
theorem holds_first (t : Fin (cfgM m hO).N) (h0 : t.val % 8 = 0) :
    Holds m (bat t.val) (t.val % 8 * 8192 + 8192) (mAt m hO 0 t) (lAt m hO 0 t) (aAt m hO 0 t) := by
  have hl : t.val % 8 * 8192 < (len m (bat t.val)).toNat := by
    have := valid_pos (hn (bat t.val)); omega
  have h1 := (step_iff hn t).mpr hl
  have h2 : ¬t.val % 8 = 7 := by omega
  have hR : Holds m (bat t.val) (t.val % 8 * 8192) (k0_pay1 (F := Ideal)) (k0_pay2 (F := Ideal)) (k0_pay3 (F := Ideal)) := by
    rw [h0]
    exact holds_reset m _
  rw [mAt_A h0 h1 h2, lAt_A h0 h1 h2, aAt_A h0 h1 h2]
  exact holds_step_at hO (hM _) (coords0_eq t) (coords1_val t) (Nat.mod_lt _ (by decide)) (hn _) hl hR

/-- A later point of a batch, from the point before. -/
theorem holds_next (t : Fin (cfgM m hO).N) (h0 : ¬t.val % 8 = 0)
    (H : Holds m (bat t.val) (t.val % 8 * 8192) (mPrev m hO 0 t) (lPrev m hO 0 t) (aPrev m hO 0 t)) :
    Holds m (bat t.val) (t.val % 8 * 8192 + 8192) (mAt m hO 0 t) (lAt m hO 0 t) (aAt m hO 0 t) := by
  by_cases hl : t.val % 8 * 8192 < (len m (bat t.val)).toNat
  · have h1 := (step_iff hn t).mpr hl
    have S := holds_step_at hO (hM _) (coords0_eq t) (coords1_val t) (Nat.mod_lt _ (by decide)) (hn _) hl H
    by_cases h2 : t.val % 8 = 7
    · rw [mAt_E h0 h1 h2, lAt_E h0 h1 h2, aAt_E h0 h1 h2]; exact S
    · rw [mAt_C h0 h1 h2, lAt_C h0 h1 h2, aAt_C h0 h1 h2]; exact S
  · have h1 := fun h => hl ((step_iff hn t).mp h)
    have S := holds_skip (hM _) (hn _) hl H
    by_cases h2 : t.val % 8 = 7
    · rw [mAt_F h0 h1 h2, lAt_F h0 h1 h2, aAt_F h0 h1 h2]; exact S
    · rw [mAt_D h0 h1 h2, lAt_D h0 h1 h2, aAt_D h0 h1 h2]; exact S

/-- The scratch after every point. -/
theorem holds (n : ℕ) (hlt : n < (cfgM m hO).N) :
    Holds m (bat n) (n % 8 * 8192 + 8192) (mAt m hO 0 ⟨n, hlt⟩) (lAt m hO 0 ⟨n, hlt⟩) (aAt m hO 0 ⟨n, hlt⟩) := by
  induction n with
  | zero => exact holds_first hO hn hM ⟨0, hlt⟩ rfl
  | succ n ih =>
    by_cases h0 : (n + 1) % 8 = 0
    · exact holds_first hO hn hM ⟨n + 1, hlt⟩ h0
    · refine holds_next hO hn hM ⟨n + 1, hlt⟩ h0 ?_
      have H := ih (Nat.lt_of_succ_lt hlt)
      have e : bat n = bat (n + 1) := by
        apply Fin.ext; show n / 8 % 8 = (n + 1) / 8 % 8; omega
      have e' : n % 8 * 8192 + 8192 = (n + 1) % 8 * 8192 := by omega
      rw [e, e'] at H
      exact H

/-- The output block at a batch's last point. -/
theorem out_last (t : Fin (cfgM m hO).N) (h2 : t.val % 8 = 7) (g : Fin 2) (r : Fin 8) (c : Fin 128) :
    oAt m hO 0 t (ix3 0 (row g r) c)
      = Ideal.div (outp (sAt m (bat t.val) g r) (wAt m (bat t.val) g) (vAt m (bat t.val) g c) 65536) (mass (sAt m (bat t.val) g r) 65536) := by
  have H := holds hO hn hM t.val t.isLt
  rw [h2] at H
  rw [oAt_last h2, pay5_apply]
  exact congrArg₂ _ (H.outp g r c) (H.mass g r c)

end points

end Cert.KernelIdeal.Decode
end
-- ==== Proof.Result.lean ====
/- What the idealized kernel returns: every batch's block of the output array, written back after the batch's last point, then
   reshaped. -/
module

public import proofs.«01_k».proof.Proof.Induct

@[expose] public section

set_option maxRecDepth 16384

noncomputable section

namespace Cert.KernelIdeal.Decode

open Idealize.ShloMosaic Idealize.ShloMosaic.TcCoe Idealize.SL.Sem Cert.Decode
open Cert.KernelIdeal Cert.KernelIdeal.Gen
open Cert.Online (top mass outp)
open Idealize.ShloMosaic.Pipeline (Dat)

variable (m : (ℓ : Loc nD τ sig) → Buf (Elt Ideal) ℓ)

/-- The head of a query row, and its row in the head. -/
def headOf (y : Fin 16) : Fin 2 := ⟨y.val / 8, by omega⟩
def rowOf (y : Fin 16) : Fin 8 := ⟨y.val % 8, by omega⟩

/-- The attention output of a query row in column `c`: the weighted sum over the sum of exponentials, over all positions. -/
def quot (b : Fin 8) (g : Fin 2) (r : Fin 8) (c : Fin 128) : EReal :=
  Ideal.div (outp (sAt m b g r) (wAt m b g) (vAt m b g c) 65536) (mass (sAt m b g r) 65536)

/-- The output array before the reshape. -/
def kout : Vec Ideal S8x16x128 .bf16 := fun i => quot m (i 0) (headOf (i 1)) (rowOf (i 1)) (i 2)

/-- The output at a row named by its head. -/
theorem kout_apply (b : Fin 8) (g : Fin 2) (r : Fin 8) (c : Fin 128) : kout m (ix3 b (row g r) c) = quot m b g r c := by
  have hg : headOf (row g r) = g := Fin.ext (by simp only [row, headOf]; omega)
  have hr : rowOf (row g r) = r := Fin.ext (by simp only [row, rowOf]; omega)
  show quot m b (headOf (row g r)) (rowOf (row g r)) c = _
  rw [hg, hr]

/-- An index of a block is its row and its column. -/
theorem eq_block (j : S1x16x128.Idx) : j = ix3 (0 : Fin 1) (j 1) (j 2) := by
  have h0 : j 0 = (0 : Fin 1) := Subsingleton.elim (α := Fin 1) _ _
  rw [← h0]
  exact (ix3_eta j).symm

variable {m}
variable (hO : Ok m) (hn : ∀ b, 1 ≤ (len m b).toInt) (hM : ∀ b g r, Cert.Online.Masked (sAt m b g r) (min (len m b).toNat 65536))

/-- A point's block of the array starts at its batch. -/
theorem emb5 (t : Fin (cfgM m hO).N) (j : S1x16x128.Idx) :
    ((((cfgM m hO).win 5).blk t).view.emb j : S8x16x128.Idx) = ix3 (bat t.val) (j 1) (j 2) := by
  have h0 : (j 0 : Nat) < 1 := (j 0).isLt
  have hi : (grid0.coords t 0).val = (bat t.val).val := congrArg Fin.val (coords0_eq t)
  funext a
  apply Fin.ext
  match a with
  | ⟨0, _⟩ =>
    show (BitVec.ofNat 32 (grid0.coords t 0).val).toNat * 1 + 1 * (j 0).val = (bat t.val).val
    rw [ofNat_coord (grid0.coords t 0).isLt]; omega
  | ⟨1, _⟩ => show 0 * 16 + 1 * (j 1).val = (j 1).val; omega
  | ⟨2, _⟩ => show 0 * 128 + 1 * (j 2).val = (j 2).val; omega

include hn hM

/-- What a batch's last point writes back is the batch's block of the output array. -/
theorem flushed_eq (t : Fin (cfgM m hO).N) (hf : ((cfgM m hO).win 5).flush t = true) :
    (dats m hO 0 0).flushed 5 t = (((cfgM m hO).win 5).blk t).view.read (Elt Ideal) (kout m) := by
  have h7 : t.val % 8 = 7 := (flush0_5 _ t).mp hf
  show ((cfgM m hO).win 5).cut (grid0.coords t) ((dats m hO 0 0).after 5 t) = _
  rw [after0_5]
  have hrow : ∀ (y : Fin 16) (c : Fin 128), oAt m hO 0 t (ix3 0 y c) = kout m (ix3 (bat t.val) y c) := by
    intro y c
    obtain ⟨g, r, rfl⟩ := row_cases y
    rw [kout_apply]
    exact out_last hO hn hM t h7 g r c
  have key : ∀ j : S1x16x128.Idx, oAt m hO 0 t j = kout m ((((cfgM m hO).win 5).blk t).view.emb j) := fun j =>
    (congrArg (oAt m hO 0 t) (eq_block j)).trans ((hrow (j 1) (j 2)).trans (congrArg (kout m) (emb5 hO t j).symm))
  funext j
  have h1 : ((cfgM m hO).win 5).cut (grid0.coords t) (outsAt0 m hO 0 t.val t.isLt).1 j = oAt m hO 0 t j := rfl
  refine h1.trans ?_
  refine (key j).trans ?_
  generalize kout m = X
  rfl

omit hn hM in
/-- An index that a block's position names lies in that block. -/
theorem mem_of_emb (t : Fin (cfgM m hO).N) (j : S1x16x128.Idx) {i : S8x16x128.Idx} (h : i = (((cfgM m hO).win 5).blk t).view.emb j) :
    i ∈ (((cfgM m hO).win 5).blk t).view.set := by
  subst h
  exact View.emb_mem_set _ _

omit hn hM in
/-- Every index of the array is in the block a batch's last point writes back. -/
theorem cover5 (i : S8x16x128.Idx) : ∃ t : Fin (cfgM m hO).N, ((cfgM m hO).win 5).flush t = true ∧ i ∈ (((cfgM m hO).win 5).blk t).view.set := by
  have h0 : (i 0 : Nat) < 8 := (i 0).isLt
  have hN : (cfgM m hO).N = 64 := N_0
  have hlt : 8 * (i 0).val + 7 < (cfgM m hO).N := by rw [hN]; omega
  have ht : (8 * (i 0).val + 7) % 8 = 7 := by omega
  refine ⟨⟨8 * (i 0).val + 7, hlt⟩, (flush0_5 _ _).mpr ht, ?_⟩
  have hb : bat (8 * (i 0).val + 7) = (i 0 : Fin 8) := Fin.ext (by show (8 * (i 0).val + 7) / 8 % 8 = (i 0).val; omega)
  have e := emb5 hO ⟨8 * (i 0).val + 7, hlt⟩ (ix3 0 (i 1) (i 2))
  have e' : i = (((cfgM m hO).win 5).blk ⟨8 * (i 0).val + 7, hlt⟩).view.emb (ix3 0 (i 1) (i 2)) := by
    refine Eq.symm (e.trans ?_)
    show ix3 (bat (8 * (i 0).val + 7)) (i 1) (i 2) = i
    rw [hb]; exact ix3_eta i
  exact mem_of_emb hO _ _ e'

/-- The output array after the run. -/
theorem final5 : (dats m hO 0 0).arrAt 5 (cfgM m hO).N = kout m :=
  (dats m hO 0 0).arrAt_eq_of_cover 5 (kout m) (flushed_eq hO hn hM) fun i => cover5 hO i

end Cert.KernelIdeal.Decode
end
-- ==== Proof.Run.lean ====
/- The idealized kernel's run: it returns the attention output, and leaves its arguments as they were. -/
module

public import proofs.«01_k».proof.Proof.Result

@[expose] public section

set_option maxRecDepth 16384

noncomputable section

namespace Cert.KernelIdeal.Decode

open Idealize.ShloMosaic Idealize.ShloMosaic.TcCoe Idealize.SL.Sem Cert.Decode
open Cert.KernelIdeal Cert.KernelIdeal.Gen

variable (m : (ℓ : Loc nD τ sig) → Buf (Elt Ideal) ℓ) (ρ : Dev nD → PrngReg)

/-- What the kernel returns. -/
def kres : Vec Ideal S8x1x2048 .bf16 := shapeCast S8x1x2048 (kout m) shapeCasts_S8x16x128_S8x1x2048

variable {m}
variable (hO : Ok m) (hn : ∀ b, 1 ≤ (len m b).toInt) (hM : ∀ b g r, Cert.Online.Masked (sAt m b g r) (min (len m b).toNat 65536))

/-- The arrays of the windows are distinct. -/
theorem arr_inj : Function.Injective (Pipeline.arrRef spec0) := by
  intro a b h
  revert a b
  decide

include hO hn hM

/-- The reshape after the call returns the output array. -/
theorem tail_eq : Pipeline.afterTail pcfgs (fun _ => adm m hO) (dats m hO) 0 (V0 m) [hostOps1] 0 main_v6 = kres m := by
  have h5 : Pipeline.withArrays spec0 0 (V0 m 0) (fun w => (dats m hO 0 0).arrAt w (cfgM m hO).N) (Proc.devRef .tc main_v5) = kout m :=
    (Pipeline.withArrays_arr spec0 arr_inj 0 (V0 m 0) (fun w => (dats m hO 0 0).arrAt w (cfgM m hO).N) 5).trans (final5 hO hn hM)
  show StableHlo.after hostOps1 (Pipeline.withArrays spec0 0 (V0 m 0) (fun w => (dats m hO 0 0).arrAt w (cfgM m hO).N)) (Proc.devRef .tc main_v6) = _
  generalize Pipeline.withArrays spec0 0 (V0 m 0) (fun w => (dats m hO 0 0).arrAt w (cfgM m hO).N) = W at h5 ⊢
  after_results
  rw [h5]
  rfl

/-- The run, read. -/
theorem run : θ_run defs (onTc (τ := τ) (main (F := Ideal))) ⟨m, fun _ => 0, ρ⟩ fun r =>
    ∀ c : Dev nD, r.2.mem ((c.tc : Thread nD τ).loc main_v6) = kres m := by
  refine (θ_run defs _ _).mono (fun r h c => ?_) (run_main m ρ hO)
  obtain rfl : c = 0 := Subsingleton.elim _ _
  exact ((h 0).2 main_v6 (show main_v6 ∈ Pipeline.restRefs sig spec0 by decide)).trans (tail_eq hO hn hM)

end Cert.KernelIdeal.Decode
end
-- ==== Proof.RefValue.lean ====
/- What the reference computes, at an index, when every length is at least 1: the masked scores, their greatest, the sum of their
   exponentials, and the values weighted by the normalized exponentials. -/
module

public import proofs.«01_k».proof.Proof.Scores
public import proofs.«01_k».proof.Proof.Gen.ReferenceIdeal.Read
public import Idealize.ShloMosaic.Lib.Pointwise

@[expose] public section

set_option maxRecDepth 16384

noncomputable section

namespace Cert.ReferenceIdeal.Decode

open Idealize.ShloMosaic Idealize.ShloMosaic.TcCoe
open Cert.ReferenceIdeal Cert.ReferenceIdeal.Gen Cert.ReferenceIdeal.Read
open Cert.KernelIdeal.Decode (row col lt_eq ofBits_bot)

variable (x0 : (⟨S8x1x2048, .bf16⟩ : BufTy).Contents (Elt Ideal)) (x1 : (⟨S8x65536x2x128, .i8⟩ : BufTy).Contents (Elt Ideal))
  (x2 : (⟨S8x65536x2, .f32⟩ : BufTy).Contents (Elt Ideal)) (x3 : (⟨S8x65536x2x128, .i8⟩ : BufTy).Contents (Elt Ideal))
  (x4 : (⟨S8x65536x2, .f32⟩ : BufTy).Contents (Elt Ideal)) (x5 : (⟨S8, .i32⟩ : BufTy).Contents (Elt Ideal))

/-- A code widened and converted is the code converted. -/
theorem code_eq (x : BitVec 8) : FloatOps.sitofp (F := Ideal) .bf16 (x.signExtend 32) = FloatOps.sitofp (F := Ideal) .bf16 x := by
  show (((x.signExtend 32).toInt : ℝ) : EReal) = ((x.toInt : ℝ) : EReal)
  rw [BitVec.toInt_signExtend_of_le (by decide)]

/-- The score of position `t` before the mask. -/
def raw (b : Fin 8) (g : Fin 2) (r : Fin 8) (t : Fin 65536) : EReal :=
  ((∑ d : Fin 128, x0 (ix3 b 0 (col (row g r) d)) * FloatOps.sitofp (F := Ideal) .bf16 (x1 (ix4 b t g d))) * x2 (ix3 b t g))
    * Ideal.ofBits .f32 0x3DB504F3#32
/-- The masked score. -/
def sc (b : Fin 8) (g : Fin 2) (r : Fin 8) (t : Fin 65536) : EReal :=
  if t.val < (x5 (ix1 b)).toNat then raw x0 x1 x2 b g r t else ⊥
/-- The greatest masked score, and the sum of the exponentials. -/
def mx (b : Fin 8) (g : Fin 2) (r : Fin 8) : EReal := (Finset.univ : Finset (Fin 65536)).fold max ⊥ fun t => sc x0 x1 x2 x5 b g r t
def sm (b : Fin 8) (g : Fin 2) (r : Fin 8) : EReal := ∑ t : Fin 65536, Ideal.exp (sc x0 x1 x2 x5 b g r t - mx x0 x1 x2 x5 b g r)

/-- The reshaped queries: row `r` of key head `g`. -/
theorem q_eq (b : Fin 8) (g : Fin 2) (r : Fin 8) (d : Fin 128) : val_main_v0 (F := Ideal) x0 (ix5 b 0 g r d) = x0 (ix3 b 0 (col (row g r) d)) := by
  rw [val_main_v0_apply]
  refine congrArg x0 (funext fun a => Fin.ext ?_)
  match a with
  | ⟨0, _⟩ => show ((((b.val * 1 + 0) * 2 + g.val) * 8 + r.val) * 128 + d.val) / 2048 = b.val; omega
  | ⟨1, _⟩ => rfl
  | ⟨2, _⟩ => show ((((b.val * 1 + 0) * 2 + g.val) * 8 + r.val) * 128 + d.val) % 2048 = (col (row g r) d).val; simp only [col, row]; omega

/-- A key code, converted. -/
theorem k_eq (b : Fin 8) (t : Fin 65536) (g : Fin 2) (d : Fin 128) :
    val_main_v2 (F := Ideal) x1 (ix4 b t g d) = FloatOps.sitofp (F := Ideal) .bf16 (x1 (ix4 b t g d)) := by
  rw [val_main_v2_apply, val_main_v1_apply, code_eq]
/-- A value code, converted. -/
theorem v_eq (b : Fin 8) (t : Fin 65536) (g : Fin 2) (d : Fin 128) :
    val_main_v4 (F := Ideal) x3 (ix4 b t g d) = FloatOps.sitofp (F := Ideal) .bf16 (x3 (ix4 b t g d)) := by
  rw [val_main_v4_apply, val_main_v3_apply, code_eq]

/-- The product of the queries and the key codes. -/
theorem dot_eq (b : Fin 8) (g : Fin 2) (r : Fin 8) (t : Fin 65536) : val_main_v6 (F := Ideal) x0 x1 (ix5 b g r 0 t)
    = ∑ d : Fin 128, x0 (ix3 b 0 (col (row g r) d)) * FloatOps.sitofp (F := Ideal) .bf16 (x1 (ix4 b t g d)) := by
  rw [val_main_v6_apply, val_main_v5_apply]
  refine Finset.sum_congr rfl fun d _ => ?_
  have el : lidx_main_v5 (idx_main_v6 (ix5 b g r 0 t)) d = ix4 b t g d := by
    funext a; match a with | ⟨0, _⟩ => rfl | ⟨1, _⟩ => rfl | ⟨2, _⟩ => rfl | ⟨3, _⟩ => rfl
  have er : ridx_main_v5 (idx_main_v6 (ix5 b g r 0 t)) d = ix5 b 0 g r d := by
    funext a; match a with | ⟨0, _⟩ => rfl | ⟨1, _⟩ => rfl | ⟨2, _⟩ => rfl | ⟨3, _⟩ => rfl | ⟨4, _⟩ => rfl
  rw [el, er, q_eq, k_eq, mul_comm]

/-- The key scales, spread over the rows of a head. -/
theorem ks_eq (b : Fin 8) (g : Fin 2) (r : Fin 8) (t : Fin 65536) : val_main_v9 (F := Ideal) x2 (ix5 b g r 0 t) = x2 (ix3 b t g) := by
  rw [val_main_v9_apply, val_main_v8_apply, val_main_v7_apply]
  refine congrArg x2 ?_
  funext a; match a with | ⟨0, _⟩ => rfl | ⟨1, _⟩ => rfl | ⟨2, _⟩ => rfl
/-- The value scales, spread over the rows of a head. -/
theorem vs_eq (b : Fin 8) (g : Fin 2) (r : Fin 8) (t : Fin 65536) : val_main_v34 (F := Ideal) x4 (ix5 b g r 0 t) = x4 (ix3 b t g) := by
  rw [val_main_v34_apply, val_main_v33_apply, val_main_v32_apply]
  refine congrArg x4 ?_
  funext a; match a with | ⟨0, _⟩ => rfl | ⟨1, _⟩ => rfl | ⟨2, _⟩ => rfl

/-- The mask: the positions below the length. -/
theorem mask_eq (h5 : ∀ b : Fin 8, 1 ≤ (x5 (ix1 b)).toInt) (b : Fin 8) (g : Fin 2) (r : Fin 8) (t : Fin 65536) :
    val_main_call0_v1 (F := Ideal) x5 (ix5 b g r 0 t) = if t.val < (x5 (ix1 b)).toNat then 1#1 else 0#1 := by
  rw [val_main_call0_v1_apply, val_main_v19_apply, val_main_v18_apply, val_main_v16_apply, val_main_v14_apply, val_main_v13_apply,
    val_main_v17_apply, val_main_v15_apply]
  have e : idx_main_v15 (idx_main_v17 (idx_main_v19 (idx_main_call0_v1 (ix5 b g r 0 t)))) = ix1 b := by
    funext a; match a with | ⟨0, _⟩ => rfl
  rw [e]
  exact lt_eq (h5 b) t.isLt

/-- The score before the mask. -/
theorem raw_eq (b : Fin 8) (g : Fin 2) (r : Fin 8) (t : Fin 65536) : val_main_v12 (F := Ideal) x0 x1 x2 (ix5 b g r 0 t) = raw x0 x1 x2 b g r t := by
  rw [val_main_v12_apply, val_main_v10_apply, val_main_v11_apply, val_main_cst_apply, dot_eq, ks_eq]
  rfl

section masked
variable (h5 : ∀ b : Fin 8, 1 ≤ (x5 (ix1 b)).toInt)
include h5

/-- The masked score. -/
theorem sc_eq (b : Fin 8) (g : Fin 2) (r : Fin 8) (t : Fin 65536) : val_main_v20 (F := Ideal) x0 x1 x2 x5 (ix5 b g r 0 t) = sc x0 x1 x2 x5 b g r t := by
  rw [val_main_v20_apply, mask_eq x5 h5, raw_eq, val_main_call0_v2_apply, val_main_call0_v0_apply, val_main_cst_0_apply]
  unfold sc
  by_cases h : t.val < (x5 (ix1 b)).toNat
  · rw [if_pos h, if_pos h]; rfl
  · rw [if_neg h, if_neg h]; exact ofBits_bot

/-- The greatest masked score of a row. -/
theorem mx_eq (b : Fin 8) (g : Fin 2) (r : Fin 8) : val_main_v23 (F := Ideal) x0 x1 x2 x5 (ix4 b g r 0) = mx x0 x1 x2 x5 b g r := by
  have hr : S8x2x8x1x65536.Reduces [4] S8x2x8x1 := by decide
  have e : val_main_v21 (F := Ideal) x0 x1 x2 x5 (ix4 b g r 0) = mx x0 x1 x2 x5 b g r := by
    unfold val_main_v21
    rw [Host.reduce_eq_fold_single (FloatOps.maximumf (F := Ideal) (φ := .f32)) _ _ _ hr]
    unfold mx
    have hi : val_main_cst_1 (F := Ideal) (Shape.Idx.first h_S_) = (⊥ : EReal) := ofBits_bot
    rw [hi]
    refine Finset.fold_congr fun t _ => ?_
    refine Eq.trans ?_ (sc_eq x0 x1 x2 x5 h5 b g r t)
    refine congrArg (val_main_v20 (F := Ideal) x0 x1 x2 x5) (funext fun a => Fin.ext ?_)
    match a with
    | ⟨0, _⟩ => rfl
    | ⟨1, _⟩ => rfl
    | ⟨2, _⟩ => rfl
    | ⟨3, _⟩ => rfl
    | ⟨4, _⟩ => rfl
  rw [val_main_v23_apply, e, val_main_v22_apply, val_main_cst_2_apply]
  show max (Ideal.ofBits .f32 0xFF800000#32) _ = _
  rw [ofBits_bot]
  exact max_eq_right bot_le

/-- The exponential of a score less the greatest. -/
theorem exp_eq (b : Fin 8) (g : Fin 2) (r : Fin 8) (t : Fin 65536) :
    val_main_v27 (F := Ideal) x0 x1 x2 x5 (ix5 b g r 0 t) = Ideal.exp (sc x0 x1 x2 x5 b g r t - mx x0 x1 x2 x5 b g r) := by
  rw [val_main_v27_apply, val_main_v26_apply, sc_eq x0 x1 x2 x5 h5, val_main_v25_apply, val_main_v24_apply]
  have e : idx_main_v24 (idx_main_v25 (ix5 b g r 0 t)) = ix4 b g r 0 := by
    funext a; match a with | ⟨0, _⟩ => rfl | ⟨1, _⟩ => rfl | ⟨2, _⟩ => rfl | ⟨3, _⟩ => rfl
  rw [e, mx_eq x0 x1 x2 x5 h5]
  rfl

/-- The sum of a row's exponentials. -/
theorem sm_eq (b : Fin 8) (g : Fin 2) (r : Fin 8) : val_main_v28 (F := Ideal) x0 x1 x2 x5 (ix4 b g r 0) = sm x0 x1 x2 x5 b g r := by
  have hz : val_main_cst_3 (F := Ideal) (Shape.Idx.first h_S_) = (0 : EReal) := by pointwise [val_main_cst_3]
  rw [val_main_v28_apply, hz, zero_add]
  refine Finset.sum_congr rfl fun t _ => ?_
  have e : idx_main_v28 (ix4 b g r 0) t = ix5 b g r 0 t := by
    funext a; match a with | ⟨0, _⟩ => rfl | ⟨1, _⟩ => rfl | ⟨2, _⟩ => rfl | ⟨3, _⟩ => rfl | ⟨4, _⟩ => rfl
  rw [e, exp_eq x0 x1 x2 x5 h5]

/-- The normalized exponential times the value scale. -/
theorem p_eq (b : Fin 8) (g : Fin 2) (r : Fin 8) (t : Fin 65536) : val_main_v36 (F := Ideal) x0 x1 x2 x4 x5 (ix5 b g r 0 t)
    = Ideal.div (Ideal.exp (sc x0 x1 x2 x5 b g r t - mx x0 x1 x2 x5 b g r)) (sm x0 x1 x2 x5 b g r) * x4 (ix3 b t g) := by
  rw [val_main_v36_apply, val_main_v35_apply, val_main_v31_apply, exp_eq x0 x1 x2 x5 h5, vs_eq, val_main_v30_apply, val_main_v29_apply]
  have e : idx_main_v29 (idx_main_v30 (ix5 b g r 0 t)) = ix4 b g r 0 := by
    funext a; match a with | ⟨0, _⟩ => rfl | ⟨1, _⟩ => rfl | ⟨2, _⟩ => rfl | ⟨3, _⟩ => rfl
  rw [e, sm_eq x0 x1 x2 x5 h5]
  rfl

/-- The reference's result. -/
theorem ref_eq (b : Fin 8) (g : Fin 2) (r : Fin 8) (c : Fin 128) : val_main_v40 (F := Ideal) x0 x1 x2 x3 x4 x5 (ix3 b 0 (col (row g r) c))
    = ∑ t : Fin 65536, FloatOps.sitofp (F := Ideal) .bf16 (x3 (ix4 b t g c))
        * (Ideal.div (Ideal.exp (sc x0 x1 x2 x5 b g r t - mx x0 x1 x2 x5 b g r)) (sm x0 x1 x2 x5 b g r) * x4 (ix3 b t g)) := by
  rw [val_main_v40_apply, val_main_v39_apply, val_main_v38_apply]
  have e : idx_main_v38 (idx_main_v39 (ix3 b 0 (col (row g r) c))) = ix5 b g c r 0 := by
    funext a
    apply Fin.ext
    match a with
    | ⟨0, _⟩ => show ((b.val * 1 + 0) * 2048 + (col (row g r) c).val) / 2048 = b.val; simp only [col, row]; omega
    | ⟨1, _⟩ => show ((b.val * 1 + 0) * 2048 + (col (row g r) c).val) / 1024 % 2 = g.val; simp only [col, row]; omega
    | ⟨2, _⟩ => show ((b.val * 1 + 0) * 2048 + (col (row g r) c).val) % 128 = c.val; simp only [col, row]; omega
    | ⟨3, _⟩ => show ((b.val * 1 + 0) * 2048 + (col (row g r) c).val) / 128 % 8 = r.val; simp only [col, row]; omega
    | ⟨4, _⟩ => rfl
  rw [e, val_main_v37_apply]
  refine Finset.sum_congr rfl fun t _ => ?_
  have el : lidx_main_v37 (ix5 b g c r 0) t = ix4 b t g c := by
    funext a; match a with | ⟨0, _⟩ => rfl | ⟨1, _⟩ => rfl | ⟨2, _⟩ => rfl | ⟨3, _⟩ => rfl
  have er : ridx_main_v37 (ix5 b g c r 0) t = ix5 b g r 0 t := by
    funext a; match a with | ⟨0, _⟩ => rfl | ⟨1, _⟩ => rfl | ⟨2, _⟩ => rfl | ⟨3, _⟩ => rfl | ⟨4, _⟩ => rfl
  rw [el, er, v_eq, p_eq x0 x1 x2 x4 x5 h5]

end masked

end Cert.ReferenceIdeal.Decode
end
-- ==== Proof.Equation.lean ====
/- The equation: at finite queries and key scales and lengths of at least 1, what the kernel returns is what the reference returns. -/
module

public import proofs.«01_k».proof.Proof.Run
public import proofs.«01_k».proof.Proof.RefValue

@[expose] public section

set_option maxRecDepth 16384

noncomputable section

namespace Cert.KernelIdeal.Decode

open Idealize.ShloMosaic Idealize.ShloMosaic.TcCoe
open Cert.KernelIdeal Cert.KernelIdeal.Gen

variable (m : (ℓ : Loc nD τ sig) → Buf (Elt Ideal) ℓ)

/-- The arguments of `main`. -/
abbrev arg0 : S8x1x2048.Idx → EReal := m (((0 : Dev nD).tc : Thread nD τ).loc main_arg0)
abbrev arg1 : S8x65536x2x128.Idx → BitVec 8 := m (((0 : Dev nD).tc : Thread nD τ).loc main_arg1)
abbrev arg2 : S8x65536x2.Idx → EReal := m (((0 : Dev nD).tc : Thread nD τ).loc main_arg2)
abbrev arg3 : S8x65536x2x128.Idx → BitVec 8 := m (((0 : Dev nD).tc : Thread nD τ).loc main_arg3)
abbrev arg4 : S8x65536x2.Idx → EReal := m (((0 : Dev nD).tc : Thread nD τ).loc main_arg4)
abbrev arg5 : S8.Idx → BitVec 32 := m (((0 : Dev nD).tc : Thread nD τ).loc main_arg5)

/-- The scores the kernel masks are the reference's. -/
theorem sAt_eq (b : Fin 8) (g : Fin 2) (r : Fin 8) (t : Fin 65536) :
    sAt m b g r t.val = Cert.ReferenceIdeal.Decode.sc (arg0 m) (arg1 m) (arg2 m) (arg5 m) b g r t := by
  unfold sAt
  rw [dif_pos t.isLt]
  rfl
/-- The value scales the kernel reads are the reference's. -/
theorem wAt_eq (b : Fin 8) (g : Fin 2) (t : Fin 65536) : wAt m b g t.val = arg4 m (ix3 b t g) := by
  unfold wAt
  rw [dif_pos t.isLt]
/-- The value codes the kernel reads are the reference's. -/
theorem vAt_eq (b : Fin 8) (g : Fin 2) (c : Fin 128) (t : Fin 65536) :
    vAt m b g c t.val = FloatOps.sitofp (F := Ideal) .bf16 (arg3 m (ix4 b t g c)) := by
  unfold vAt
  rw [dif_pos t.isLt]

/-- The greatest score is the reference's. -/
theorem top_eq (b : Fin 8) (g : Fin 2) (r : Fin 8) :
    Cert.Online.top (sAt m b g r) 65536 = Cert.ReferenceIdeal.Decode.mx (arg0 m) (arg1 m) (arg2 m) (arg5 m) b g r := by
  rw [Cert.Online.top_eq_fold]
  exact Finset.fold_congr fun t _ => sAt_eq m b g r t
/-- The sum of the exponentials is the reference's. -/
theorem mass_eq (b : Fin 8) (g : Fin 2) (r : Fin 8) :
    Cert.Online.mass (sAt m b g r) 65536 = Cert.ReferenceIdeal.Decode.sm (arg0 m) (arg1 m) (arg2 m) (arg5 m) b g r := by
  unfold Cert.Online.mass
  rw [top_eq, Finset.sum_range]
  exact Finset.sum_congr rfl fun t _ => by rw [sAt_eq]

variable {m}
variable (hn : ∀ b, 1 ≤ (len m b).toInt) (hM : ∀ b g r, Cert.Online.Masked (sAt m b g r) (min (len m b).toNat 65536))
include hn hM

/-- The kernel's quotient is the reference's sum. -/
theorem quot_eq (b : Fin 8) (g : Fin 2) (r : Fin 8) (c : Fin 128) :
    quot m b g r c = Cert.ReferenceIdeal.Read.val_main_v40 (F := Ideal) (arg0 m) (arg1 m) (arg2 m) (arg3 m) (arg4 m) (arg5 m)
      (ix3 b 0 (col (row g r) c)) := by
  rw [Cert.ReferenceIdeal.Decode.ref_eq _ _ _ _ _ _ hn]
  unfold quot
  rw [Cert.Online.outp_div_mass _ _ (hM b g r) (valid_pos (hn b)) (by decide)]
  refine Finset.sum_congr rfl fun t _ => ?_
  rw [vAt_eq, wAt_eq, sAt_eq, top_eq, mass_eq]

/-- What the kernel returns is what the reference returns. -/
theorem kres_eq : kres m = Cert.ReferenceIdeal.Read.val_main_v40 (F := Ideal) (arg0 m) (arg1 m) (arg2 m) (arg3 m) (arg4 m) (arg5 m) := by
  funext i
  obtain ⟨b, g, r, c, rfl⟩ : ∃ (b : Fin 8) (g : Fin 2) (r : Fin 8) (c : Fin 128), i = ix3 b 0 (col (row g r) c) := by
    have h2 : (i 2).val < 2048 := (i 2).isLt
    refine ⟨i 0, ⟨(i 2).val / 1024, by omega⟩, ⟨(i 2).val / 128 % 8, by omega⟩, ⟨(i 2).val % 128, by omega⟩, ?_⟩
    funext a
    apply Fin.ext
    match a with
    | ⟨0, _⟩ => rfl
    | ⟨1, _⟩ => have h1 : (i 1).val < 1 := (i 1).isLt
                show (i 1).val = 0; omega
    | ⟨2, _⟩ => show (i 2).val = (col (row _ _) _).val
                simp only [col, row]; omega
  rw [← quot_eq hn hM b g r c, ← kout_apply]
  unfold kres
  refine shapeCast_apply _ _ _ _ ?_
  rw [Shape.rowMajor_val_three, Shape.rowMajor_val_three]
  show (b.val * 16 + (row g r).val) * 128 + c.val = (b.val * 1 + 0) * 2048 + (col (row g r) c).val
  simp only [col, row]; omega

end Cert.KernelIdeal.Decode
end
-- ==== Proof.Conditions.lean ====
/- The preconditions, read: every length is at least 1; the queries and the key scales are real numbers. -/
module

public import proofs.«01_k».proof.Defs
public import proofs.«01_k».proof.Proof.OkKernel
public import proofs.«01_k».proof.Proof.Equation
public import proofs.«01_k».proof.Proof.Gen.Pre_lengths
public import proofs.«01_k».proof.Proof.Gen.Pre_finite
public import Idealize.ShloMosaic.Lib.StableHlo.Predicate

@[expose] public section

noncomputable section

namespace Cert.Decode

open Idealize.ShloMosaic Idealize.ShloMosaic.TcCoe

/-- A word compared with 1. -/
theorem pos_of_cmpi {x : BitVec 32} (h : IntOp.cmpi .sge x 1#32 = 1#1) : 1 ≤ x.toInt := by
  have h' : BitVec.ofBool ((1#32 : BitVec 32).sle x) = 1#1 := h
  rw [StableHlo.Predicate.ofBool_eq_one_iff, BitVec.sle, decide_eq_true_eq] at h'
  exact h'

/-- Two bits whose conjunction is 1 are 1. -/
theorem and_one {a b : BitVec 1} (h : a &&& b = 1#1) : a = 1#1 ∧ b = 1#1 := by
  revert a b; decide

/-- An extended real strictly between the infinities is a real. -/
theorem real_of_cmpf {x lo hi : EReal} (hlo : lo = ⊥) (hhi : hi = ⊤) (h : Ideal.cmp .ogt x lo &&& Ideal.cmp .olt x hi = 1#1) : ∃ r : ℝ, x = r := by
  obtain ⟨h1, h2⟩ := and_one h
  have h1' : BitVec.ofBool (decide (lo < x)) = 1#1 := h1
  have h2' : BitVec.ofBool (decide (x < hi)) = 1#1 := h2
  rw [StableHlo.Predicate.ofBool_eq_one_iff, decide_eq_true_eq] at h1' h2'
  subst hlo hhi
  exact ⟨x.toReal, (EReal.coe_toReal h2'.ne h1'.ne').symm⟩

/-- The words of the infinities, at each format. -/
theorem bf16_bot : Ideal.ofBits .bf16 0xFF80#16 = ⊥ := by simp [Ideal.ofBits, Ideal.ieee]
theorem bf16_top : Ideal.ofBits .bf16 0x7F80#16 = ⊤ := by simp [Ideal.ofBits, Ideal.ieee]
theorem f32_bot : Ideal.ofBits .f32 0xFF800000#32 = ⊥ := by simp [Ideal.ofBits, Ideal.ieee]
theorem f32_top : Ideal.ofBits .f32 0x7F800000#32 = ⊤ := by simp [Ideal.ofBits, Ideal.ieee]

/-- The kernel's lengths are at least 1. -/
theorem len_kernel {m : (ℓ : Loc Kernel.nD Kernel.τ Kernel.sig) → Buf (Elt Bits) ℓ} (h : Cert.Pre_Kernel m) (b : Fin 8) :
    1 ≤ (Kernel.Decode.len m b).toInt := pos_of_cmpi (congrFun (h 0) (ix1 b))
/-- The idealized kernel's lengths are at least 1. -/
theorem len_ideal {m : (ℓ : Loc KernelIdeal.nD KernelIdeal.τ KernelIdeal.sig) → Buf (Elt Ideal) ℓ} (h : Cert.Pre_KernelIdeal m) (b : Fin 8) :
    1 ≤ (KernelIdeal.Decode.len m b).toInt := pos_of_cmpi (congrFun (h 0) (ix1 b))

variable {m : (ℓ : Loc KernelIdeal.nD KernelIdeal.τ KernelIdeal.sig) → Buf (Elt Ideal) ℓ} (h : Cert.Pre_KernelIdeal_finite m)
include h

/-- Under the finiteness condition the lengths are at least 1. -/
theorem len_finite (b : Fin 8) : 1 ≤ (KernelIdeal.Decode.len m b).toInt := pos_of_cmpi (congrFun (h 0).1 (ix1 b))
/-- Under it every query is a real. -/
theorem query_real (y) : ∃ r : ℝ, KernelIdeal.Decode.arg0 m y = r := real_of_cmpf bf16_bot bf16_top (congrFun (h 0).2.1 y)
/-- Under it every key scale is a real. -/
theorem scale_real (y) : ∃ r : ℝ, KernelIdeal.Decode.arg2 m y = r := real_of_cmpf f32_bot f32_top (congrFun (h 0).2.2 y)

end Cert.Decode
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.Pre_lengths
public import proofs.«01_k».proof.Proof.Gen.Pre_finite
public import proofs.«01_k».proof.Proof.Conditions
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs to its end and leaves its arguments, when every length is at least 1. -/
theorem frame_kernel : Cert.quiescent_Kernel (hKernel := Cert.Kernel.Gen.facts) (hPre_lengths := Cert.Pre_lengths.Gen.facts) :=
  fun m ρ h => Cert.Kernel.Gen.frame m ρ (Cert.Kernel.Decode.ok_of_pos m (Cert.Decode.len_kernel h))

/-- So does the idealized kernel. -/
theorem frame_ideal : Cert.quiescent_KernelIdeal (hKernelIdeal := Cert.KernelIdeal.Gen.facts) (hPre_lengths := Cert.Pre_lengths.Gen.facts) :=
  fun m ρ h => Cert.KernelIdeal.Gen.frame m ρ (Cert.KernelIdeal.Decode.ok_of_pos m (Cert.Decode.len_ideal h))
theorem frame_finite : Cert.quiescent_KernelIdeal_pre_finite (hKernelIdeal := Cert.KernelIdeal.Gen.facts) (hPre_finite := Cert.Pre_finite.Gen.facts) :=
  fun m ρ h => Cert.KernelIdeal.Gen.frame m ρ (Cert.KernelIdeal.Decode.ok_of_pos m (Cert.Decode.len_finite h))

/-- The reference runs to its end and leaves its arguments, at any input. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_finite : Cert.quiescent_ReferenceIdeal_pre_finite (hReferenceIdeal := Cert.ReferenceIdeal.Gen.facts)
    (hPre_finite := Cert.Pre_finite.Gen.facts) := fun m ρ _ => frame_reference m ρ trivial

/-- At lengths of at least 1 and finite queries and key scales, the idealized kernel and the reference return the same array. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' h agree
  have hn := Cert.Decode.len_finite h
  have hO := Cert.KernelIdeal.Decode.ok_of_pos m hn
  have hM := Cert.KernelIdeal.Decode.masked m (Cert.Decode.query_real h) (Cert.Decode.scale_real h)
  refine ⟨fun _ => Cert.KernelIdeal.Decode.kres m, ?_, ?_⟩
  · exact (θ_run Cert.KernelIdeal.defs _ _).mono (fun r h c => ⟨h.1 c, h.2 c⟩)
      (θ_run_and (Cert.KernelIdeal.Decode.run ρ hO hn hM) (Cert.KernelIdeal.Gen.unchanged m ρ hO))
  · refine (θ_run Cert.ReferenceIdeal.defs _ _).mono (fun r h c => ⟨(h c).1.trans ?_, (h c).2⟩)
      (Cert.ReferenceIdeal.Value.run (F := Ideal) m' ρ')
    obtain rfl : c = 0 := Subsingleton.elim _ _
    obtain ⟨e0, e1, e2, e3, e4, e5⟩ := agree 0
    refine (Cert.ReferenceIdeal.Read.val_main_v40_eq m' 0).trans ?_
    rw [e0, e1, e2, e3, e4, e5]
    exact (Cert.KernelIdeal.Decode.kres_eq hn hM).symm

theorem claim : Cert.Claim := ⟨Cert.Kernel.Gen.facts, Cert.KernelIdeal.Gen.facts, Cert.ReferenceIdeal.Gen.facts, Cert.Pre_lengths.Gen.facts,
  Cert.Pre_finite.Gen.facts, frame_kernel, frame_ideal, frame_finite, frame_reference, frame_reference_finite, trivial, equal⟩

end Cert.Proof

end
